-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x768 : Shape := ⟨2, ![32, 768]⟩
abbrev S768 : Shape := ⟨1, ![768]⟩
abbrev S16x768 : Shape := ⟨2, ![16, 768]⟩
abbrev S16 : Shape := ⟨1, ![16]⟩
abbrev S16x1536x768 : Shape := ⟨3, ![16, 1536, 768]⟩
abbrev S16x1536 : Shape := ⟨2, ![16, 1536]⟩
abbrev S16x768x768 : Shape := ⟨3, ![16, 768, 768]⟩
abbrev S_ : Shape := ⟨0, ![]⟩

class Facts : Prop where
  bcast_S_S768 : S_.BroadcastsInDim S768 (![] : Fin 0 → Fin S768.rank)
  reducesTo_S768_S_d0 : S768.ReducesTo [0] S_
  h_S_ : 0 < S_.numel
  bcast_S_S16x768 : S_.BroadcastsInDim S16x768 (![] : Fin 0 → Fin S16x768.rank)
  reducesTo_S16x768_S_d0_1 : S16x768.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S32x768 .f32) (main_arg1 : FVec F S768 .f32) (main_arg2 : FVec F S16x768 .f32) (main_arg3 : FVec F S16 .f32) (main_arg4 : FVec F S16x1536x768 .f32) (main_arg5 : FVec F S16x1536 .f32) (main_arg6 : FVec F S16x768x768 .f32) (main_arg7 : FVec F S16x768 .f32) : IVec S_ 1 :=
  let main_v0 : FVec F S768 .f32 := Host.absf main_arg1
  let main_cst : FVec F S_ .f32 := constant S_ .f32 0x7F800000#32
  let main_v1 : FVec F S768 .f32 := broadcastInDim S768 ![] bcast_S_S768 main_cst
  let main_v2 : IVec S768 1 := cmpf .olt main_v0 main_v1
  let main_c : IVec S_ 1 := constantI S_ 1 1#1
  let main_v3 : IVec S_ 1 := (fun x v => Host.reduce IntOp.andi x v reducesTo_S768_S_d0 h_S_) main_v2 main_c
  let main_v4 : FVec F S16x768 .f32 := Host.absf main_arg2
  let main_cst_0 : FVec F S_ .f32 := constant S_ .f32 0x7F800000#32
  let main_v5 : FVec F S16x768 .f32 := broadcastInDim S16x768 ![] bcast_S_S16x768 main_cst_0
  let main_v6 : IVec S16x768 1 := cmpf .olt main_v4 main_v5
  let main_c_1 : IVec S_ 1 := constantI S_ 1 1#1
  let main_v7 : IVec S_ 1 := (fun x v => Host.reduce IntOp.andi x v reducesTo_S16x768_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S32x768 : Shape := ⟨2, ![32, 768]⟩
abbrev S768 : Shape := ⟨1, ![768]⟩
abbrev S16x768 : Shape := ⟨2, ![16, 768]⟩
abbrev S16 : Shape := ⟨1, ![16]⟩
abbrev S16x1536x768 : Shape := ⟨3, ![16, 1536, 768]⟩
abbrev S16x1536 : Shape := ⟨2, ![16, 1536]⟩
abbrev S16x768x768 : Shape := ⟨3, ![16, 768, 768]⟩
abbrev S16x1x768 : Shape := ⟨3, ![16, 1, 768]⟩
abbrev S1x768 : Shape := ⟨2, ![1, 768]⟩
abbrev S1x16 : Shape := ⟨2, ![1, 16]⟩
abbrev S768x384 : Shape := ⟨2, ![768, 384]⟩
abbrev S_ : Shape := ⟨0, ![]⟩
abbrev S1x1x768 : Shape := ⟨3, ![1, 1, 768]⟩
abbrev S32x16 : Shape := ⟨2, ![32, 16]⟩
abbrev S3x1536x768 : Shape := ⟨3, ![3, 1536, 768]⟩
abbrev S3x768x768 : Shape := ⟨3, ![3, 768, 768]⟩
abbrev S3x3 : Shape := ⟨2, ![3, 3]⟩
abbrev S1x1 : Shape := ⟨2, ![1, 1]⟩
abbrev S1x768x768 : Shape := ⟨3, ![1, 768, 768]⟩
abbrev S32 : Shape := ⟨1, ![32]⟩
abbrev S32x1 : Shape := ⟨2, ![32, 1]⟩
abbrev S768x768 : Shape := ⟨2, ![768, 768]⟩
abbrev S32x384 : Shape := ⟨2, ![32, 384]⟩

abbrev nBuf : Space → Nat
  | .hbm => 23
  | .vmem => 16
  | .smem => 0
  | _ => 0

abbrev bufTy : (tb : Table) → Fin (tcTables nBuf tb) → BufTy
  | .hbm, ⟨0, _⟩ => ⟨S32x768, .f32⟩
  | .hbm, ⟨1, _⟩ => ⟨S768, .f32⟩
  | .hbm, ⟨2, _⟩ => ⟨S16x768, .f32⟩
  | .hbm, ⟨3, _⟩ => ⟨S16, .f32⟩
  | .hbm, ⟨4, _⟩ => ⟨S16x1536x768, .f32⟩
  | .hbm, ⟨5, _⟩ => ⟨S16x1536, .f32⟩
  | .hbm, ⟨6, _⟩ => ⟨S16x768x768, .f32⟩
  | .hbm, ⟨7, _⟩ => ⟨S16x768, .f32⟩
  | .hbm, ⟨8, _⟩ => ⟨S16x768, .f32⟩
  | .hbm, ⟨9, _⟩ => ⟨S16x1x768, .f32⟩
  | .hbm, ⟨10, _⟩ => ⟨S16x768, .f32⟩
  | .hbm, ⟨11, _⟩ => ⟨S16x1x768, .f32⟩
  | .hbm, ⟨12, _⟩ => ⟨S16x1x768, .f32⟩
  | .hbm, ⟨13, _⟩ => ⟨S1x768, .f32⟩
  | .hbm, ⟨14, _⟩ => ⟨S1x16, .f32⟩
  | .hbm, ⟨15, _⟩ => ⟨S768x384, .i32⟩
  | .hbm, ⟨16, _⟩ => ⟨S768x384, .i32⟩
  | .hbm, ⟨17, _⟩ => ⟨S_, .i32⟩
  | .hbm, ⟨18, _⟩ => ⟨S768x384, .i32⟩
  | .hbm, ⟨19, _⟩ => ⟨S768x384, .i32⟩
  | .hbm, ⟨20, _⟩ => ⟨S768x384, .i1⟩
  | .hbm, ⟨21, _⟩ => ⟨S768x384, .bf16⟩
  | .hbm, ⟨22, _⟩ => ⟨S32x768, .f32⟩
  | .local _ .vmem, ⟨0, _⟩ => ⟨S32x768, .f32⟩
  | .local _ .vmem, ⟨1, _⟩ => ⟨S1x768, .f32⟩
  | .local _ .vmem, ⟨2, _⟩ => ⟨S16x768, .f32⟩
  | .local _ .vmem, ⟨3, _⟩ => ⟨S1x16, .f32⟩
  | .local _ .vmem, ⟨4, _⟩ => ⟨S1x1x768, .f32⟩
  | .local _ .vmem, ⟨5, _⟩ => ⟨S1x1x768, .f32⟩
  | .local _ .vmem, ⟨6, _⟩ => ⟨S1x1x768, .f32⟩
  | .local _ .vmem, ⟨7, _⟩ => ⟨S1x1x768, .f32⟩
  | .local _ .vmem, ⟨8, _⟩ => ⟨S1x1x768, .f32⟩
  | .local _ .vmem, ⟨9, _⟩ => ⟨S1x1x768, .f32⟩
  | .local _ .vmem, ⟨10, _⟩ => ⟨S768x384, .bf16⟩
  | .local _ .vmem, ⟨11, _⟩ => ⟨S32x768, .f32⟩
  | .local _ .vmem, ⟨12, _⟩ => ⟨S32x768, .bf16⟩
  | .local _ .vmem, ⟨13, _⟩ => ⟨S32x16, .f32⟩
  | .local _ .vmem, ⟨14, _⟩ => ⟨S3x1536x768, .f32⟩
  | .local _ .vmem, ⟨15, _⟩ => ⟨S3x768x768, .f32⟩
  | _, _ => ⟨S32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c2_i32 : BitVec 32 := 2#32
  let v4 : BitVec 32 := Scalar.addi arg0 c2_i32
  let c16_i32 : BitVec 32 := 16#32
  let v5 : BitVec 1 := Scalar.cmpi .slt v4 c16_i32
  let v6 : BitVec 32 := Scalar.extui v5
  let c0_i32_1 : BitVec 32 := 0#32
  let v7 : BitVec 1 := Scalar.cmpi .ne v6 c0_i32_1
  v7

def k0_off1 (i : grid0.Coords) : Fin 2 → Nat :=
  let c0_i32_63 : BitVec 32 := 0#32
  let arg0 : BitVec 32 := BitVec.ofNat 32 (i 0).val
  let c2_i32_60 : BitVec 32 := 2#32
  let v110 : BitVec 32 := Scalar.addi arg0 c2_i32_60
  let c3_i32_61 : BitVec 32 := 3#32
  let v111 : BitVec 32 := Scalar.remsi v110 c3_i32_61
  ![0, v111.toNat]
def k0_off2 (i : grid0.Coords) : Fin 3 → Nat :=
  let arg0 : BitVec 32 := BitVec.ofNat 32 (i 0).val
  let c2_i32_60 : BitVec 32 := 2#32
  let v110 : BitVec 32 := Scalar.addi arg0 c2_i32_60
  let c3_i32_61 : BitVec 32 := 3#32
  let v111 : BitVec 32 := Scalar.remsi v110 c3_i32_61
  let c0_i32_64 : BitVec 32 := 0#32
  let c0_i32_65 : BitVec 32 := 0#32
  ![v111.toNat, 0, 0]
def k0_off3 (i : grid0.Coords) : Fin 3 → Nat :=
  let arg0 : BitVec 32 := BitVec.ofNat 32 (i 0).val
  let c2_i32_62 : BitVec 32 := 2#32
  let v112 : BitVec 32 := Scalar.addi arg0 c2_i32_62
  let c0_i32_66 : BitVec 32 := 0#32
  let c0_i32_67 : BitVec 32 := 0#32
  ![v112.toNat, 0, 0]
def k0_off4 (i : grid0.Coords) : Fin 2 → Nat :=
  let c1_i32_68 : BitVec 32 := 1#32
  let arg0 : BitVec 32 := BitVec.ofNat 32 (i 0).val
  let c2_i32_60 : BitVec 32 := 2#32
  let v110 : BitVec 32 := Scalar.addi arg0 c2_i32_60
  let c3_i32_61 : BitVec 32 := 3#32
  let v111 : BitVec 32 := Scalar.remsi v110 c3_i32_61
  ![1, v111.toNat]
def k0_off5 (i : grid0.Coords) : Fin 3 → Nat :=
  let arg0 : BitVec 32 := BitVec.ofNat 32 (i 0).val
  let c2_i32_60 : BitVec 32 := 2#32
  let v110 : BitVec 32 := Scalar.addi arg0 c2_i32_60
  let c3_i32_61 : BitVec 32 := 3#32
  let v111 : BitVec 32 := Scalar.remsi v110 c3_i32_61
  let c768_i32_69 : BitVec 32 := 768#32
  let c0_i32_70 : BitVec 32 := 0#32
  ![v111.toNat, 768, 0]
def k0_off6 (i : grid0.Coords) : Fin 3 → Nat :=
  let arg0 : BitVec 32 := BitVec.ofNat 32 (i 0).val
  let c2_i32_62 : BitVec 32 := 2#32
  let v112 : BitVec 32 := Scalar.addi arg0 c2_i32_62
  let c768_i32_71 : BitVec 32 := 768#32
  let c0_i32_72 : BitVec 32 := 0#32
  ![v112.toNat, 768, 0]
def k0_off7 (i : grid0.Coords) : Fin 2 → Nat :=
  let c2_i32_73 : BitVec 32 := 2#32
  let arg0 : BitVec 32 := BitVec.ofNat 32 (i 0).val
  let c2_i32_60 : BitVec 32 := 2#32
  let v110 : BitVec 32 := Scalar.addi arg0 c2_i32_60
  let c3_i32_61 : BitVec 32 := 3#32
  let v111 : BitVec 32 := Scalar.remsi v110 c3_i32_61
  ![2, v111.toNat]
def k0_off8 (i : grid0.Coords) : Fin 3 → Nat :=
  let arg0 : BitVec 32 := BitVec.ofNat 32 (i 0).val
  let c2_i32_60 : BitVec 32 := 2#32
  let v110 : BitVec 32 := Scalar.addi arg0 c2_i32_60
  let c3_i32_61 : BitVec 32 := 3#32
  let v111 : BitVec 32 := Scalar.remsi v110 c3_i32_61
  let c0_i32_74 : BitVec 32 := 0#32
  let c0_i32_75 : BitVec 32 := 0#32
  ![v111.toNat, 0, 0]
def k0_off9 (i : grid0.Coords) : Fin 3 → Nat :=
  let arg0 : BitVec 32 := BitVec.ofNat 32 (i 0).val
  let c2_i32_62 : BitVec 32 := 2#32
  let v112 : BitVec 32 := Scalar.addi arg0 c2_i32_62
  let c0_i32_76 : BitVec 32 := 0#32
  let c0_i32_77 : BitVec 32 := 0#32
  ![v112.toNat, 0, 0]
def k0_off10 (i : grid0.Coords) : Fin 2 → Nat :=
  let c0_i32_4 : BitVec 32 := 0#32
  let arg0 : BitVec 32 := BitVec.ofNat 32 (i 0).val
  let c3_i32 : BitVec 32 := 3#32
  let v0 : BitVec 32 := Scalar.remsi arg0 c3_i32
  ![0, v0.toNat]
def k0_off11 (i : grid0.Coords) : Fin 3 → Nat :=
  let arg0 : BitVec 32 := BitVec.ofNat 32 (i 0).val
  let c3_i32 : BitVec 32 := 3#32
  let v0 : BitVec 32 := Scalar.remsi arg0 c3_i32
  let c0_i32_5 : BitVec 32 := 0#32
  let c0_i32_6 : BitVec 32 := 0#32
  ![v0.toNat, 0, 0]
def k0_off12 (i : grid0.Coords) : Fin 3 → Nat :=
  let arg0 : BitVec 32 := BitVec.ofNat 32 (i 0).val
  let c0_i32_7 : BitVec 32 := 0#32
  let c0_i32_8 : BitVec 32 := 0#32
  ![arg0.toNat, 0, 0]
def k0_off13 (i : grid0.Coords) : Fin 2 → Nat :=
  let c1_i32 : BitVec 32 := 1#32
  let arg0 : BitVec 32 := BitVec.ofNat 32 (i 0).val
  let c3_i32 : BitVec 32 := 3#32
  let v0 : BitVec 32 := Scalar.remsi arg0 c3_i32
  ![1, v0.toNat]
def k0_off14 (i : grid0.Coords) : Fin 3 → Nat :=
  let arg0 : BitVec 32 := BitVec.ofNat 32 (i 0).val
  let c3_i32 : BitVec 32 := 3#32
  let v0 : BitVec 32 := Scalar.remsi arg0 c3_i32
  let c768_i32 : BitVec 32 := 768#32
  let c0_i32_9 : BitVec 32 := 0#32
  ![v0.toNat, 768, 0]
def k0_off15 (i : grid0.Coords) : Fin 3 → Nat :=
  let arg0 : BitVec 32 := BitVec.ofNat 32 (i 0).val
  let c768_i32_10 : BitVec 32 := 768#32
  let c0_i32_11 : BitVec 32 := 0#32
  ![arg0.toNat, 768, 0]
def k0_off16 (i : grid0.Coords) : Fin 2 → Nat :=
  let c2_i32_12 : BitVec 32 := 2#32
  let arg0 : BitVec 32 := BitVec.ofNat 32 (i 0).val
  let c3_i32 : BitVec 32 := 3#32
  let v0 : BitVec 32 := Scalar.remsi arg0 c3_i32
  ![2, v0.toNat]
def k0_off17 (i : grid0.Coords) : Fin 3 → Nat :=
  let arg0 : BitVec 32 := BitVec.ofNat 32 (i 0).val
  let c3_i32 : BitVec 32 := 3#32
  let v0 : BitVec 32 := Scalar.remsi arg0 c3_i32
  let c0_i32_13 : BitVec 32 := 0#32
  let c0_i32_14 : BitVec 32 := 0#32
  ![v0.toNat, 0, 0]
def k0_off18 (i : grid0.Coords) : Fin 3 → Nat :=
  let arg0 : BitVec 32 := BitVec.ofNat 32 (i 0).val
  let c0_i32_15 : BitVec 32 := 0#32
  let c0_i32_16 : BitVec 32 := 0#32
  ![arg0.toNat, 0, 0]
def k0_off19 (i : grid0.Coords) : Fin 3 → Nat :=
  let arg0 : BitVec 32 := BitVec.ofNat 32 (i 0).val
  let c3_i32 : BitVec 32 := 3#32
  let v0 : BitVec 32 := Scalar.remsi arg0 c3_i32
  let v24 : Index := Scalar.indexCast v0
  let c0_18 : Index := 0#32
  let c0_19 : Index := 0#32
  ![v24.toNat, 0, 0]
def k0_off20 (i : grid0.Coords) : Fin 3 → Nat :=
  let arg0 : BitVec 32 := BitVec.ofNat 32 (i 0).val
  let c3_i32 : BitVec 32 := 3#32
  let v0 : BitVec 32 := Scalar.remsi arg0 c3_i32
  let v52 : Index := Scalar.indexCast v0
  let c768 : Index := 768#32
  let c0_31 : Index := 0#32
  ![v52.toNat, 768, 0]
def k0_off21 (i : grid0.Coords) : Fin 3 → Nat :=
  let arg0 : BitVec 32 := BitVec.ofNat 32 (i 0).val
  let c3_i32 : BitVec 32 := 3#32
  let v0 : BitVec 32 := Scalar.remsi arg0 c3_i32
  let v80 : Index := Scalar.indexCast v0
  let c0_45 : Index := 0#32
  let c0_46 : Index := 0#32
  ![v80.toNat, 0, 0]
def k0_cond4 (i : grid0.Coords) : BitVec 1 :=
  let arg0 : BitVec 32 := BitVec.ofNat 32 (i 0).val
  let c0_i32_56 : BitVec 32 := 0#32
  let v104 : BitVec 1 := Scalar.cmpi .eq arg0 c0_i32_56
  let v105 : BitVec 32 := Scalar.extui v104
  let c0_i32_57 : BitVec 32 := 0#32
  let v106 : BitVec 1 := Scalar.cmpi .ne v105 c0_i32_57
  v106

def k0_cond5 (i : grid0.Coords) : BitVec 1 :=
  let arg0 : BitVec 32 := BitVec.ofNat 32 (i 0).val
  let c0_i32_58 : BitVec 32 := 0#32
  let v107 : BitVec 1 := Scalar.cmpi .ne arg0 c0_i32_58
  let v108 : BitVec 32 := Scalar.extui v107
  let c0_i32_59 : BitVec 32 := 0#32
  let v109 : BitVec 1 := Scalar.cmpi .ne v108 c0_i32_59
  v109

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S768x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S32x768 : Shape := ⟨2, ![32, 768]⟩
abbrev S768 : Shape := ⟨1, ![768]⟩
abbrev S16x768 : Shape := ⟨2, ![16, 768]⟩
abbrev S16 : Shape := ⟨1, ![16]⟩
abbrev S16x1536x768 : Shape := ⟨3, ![16, 1536, 768]⟩
abbrev S16x1536 : Shape := ⟨2, ![16, 1536]⟩
abbrev S16x768x768 : Shape := ⟨3, ![16, 768, 768]⟩
abbrev S_ : Shape := ⟨0, ![]⟩
abbrev S32 : Shape := ⟨1, ![32]⟩
abbrev S32x1 : Shape := ⟨2, ![32, 1]⟩
abbrev S1x768 : Shape := ⟨2, ![1, 768]⟩
abbrev S768x16 : Shape := ⟨2, ![768, 16]⟩
abbrev S32x16 : Shape := ⟨2, ![32, 16]⟩
abbrev S1x16 : Shape := ⟨2, ![1, 16]⟩
abbrev S32x2 : Shape := ⟨2, ![32, 2]⟩
abbrev S32x2x1 : Shape := ⟨3, ![32, 2, 1]⟩
abbrev S1 : Shape := ⟨1, ![1]⟩
abbrev S1x1x1 : Shape := ⟨3, ![1, 1, 1]⟩
abbrev S32x2x1536x768 : Shape := ⟨4, ![32, 2, 1536, 768]⟩
abbrev S32x2x1536 : Shape := ⟨3, ![32, 2, 1536]⟩
abbrev S32x2x768 : Shape := ⟨3, ![32, 2, 768]⟩
abbrev S32x2x768x768 : Shape := ⟨4, ![32, 2, 768, 768]⟩

abbrev nBuf : Space → Nat
  | .hbm => 172
  | .vmem => 0
  | .smem => 0
  | _ => 0

abbrev hbmTy0_0 (i : Nat) : BufTy := match i % 128 with
  | 0 => ⟨S32x768, .f32⟩
  | 1 => ⟨S768, .f32⟩
  | 2 => ⟨S16x768, .f32⟩
  | 3 => ⟨S16, .f32⟩
  | 4 => ⟨S16x1536x768, .f32⟩
  | 5 => ⟨S16x1536, .f32⟩
  | 6 => ⟨S16x768x768, .f32⟩
  | 7 => ⟨S16x768, .f32⟩
  | 8 => ⟨S32x768, .f32⟩
  | 9 => ⟨S_, .f32⟩
  | 10 => ⟨S32, .f32⟩
  | 11 => ⟨S32x1, .f32⟩
  | 12 => ⟨S_, .f32⟩
  | 13 => ⟨S32x1, .f32⟩
  | 14 => ⟨S32x1, .f32⟩
  | 15 => ⟨S_, .f32⟩
  | 16 => ⟨S32x1, .f32⟩
  | 17 => ⟨S32x1, .f32⟩
  | 18 => ⟨S32x1, .f32⟩
  | 19 => ⟨S32x768, .f32⟩
  | 20 => ⟨S32x768, .f32⟩
  | 21 => ⟨S1x768, .f32⟩
  | 22 => ⟨S32x768, .f32⟩
  | 23 => ⟨S32x768, .f32⟩
  | 24 => ⟨S768x16, .f32⟩
  | 25 => ⟨S32x16, .f32⟩
  | 26 => ⟨S1x16, .f32⟩
  | 27 => ⟨S32x16, .f32⟩
  | 28 => ⟨S32x16, .f32⟩
  | 29 => ⟨S32x2, .f32⟩
  | 30 => ⟨S32x2, .i32⟩
  | 31 => ⟨S_, .f32⟩
  | 32 => ⟨S32, .f32⟩
  | 33 => ⟨S_, .f32⟩
  | 34 => ⟨S32, .f32⟩
  | 35 => ⟨S32, .f32⟩
  | 36 => ⟨S32x1, .f32⟩
  | 37 => ⟨S32x2, .f32⟩
  | 38 => ⟨S32x2, .f32⟩
  | 39 => ⟨S32x2, .f32⟩
  | 40 => ⟨S_, .f32⟩
  | 41 => ⟨S32, .f32⟩
  | 42 => ⟨S32x1, .f32⟩
  | 43 => ⟨S32x2, .f32⟩
  | 44 => ⟨S32x2, .f32⟩
  | 45 => ⟨S_, .i32⟩
  | 46 => ⟨S32x2, .i32⟩
  | 47 => ⟨S32x2, .i1⟩
  | 48 => ⟨S_, .i32⟩
  | 49 => ⟨S32x2, .i32⟩
  | 50 => ⟨S32x2, .i32⟩
  | 51 => ⟨S32x2, .i32⟩
  | 52 => ⟨S32x2x1, .i32⟩
  | 53 => ⟨S1, .i32⟩
  | 54 => ⟨S_, .i32⟩
  | 55 => ⟨S32x2x1, .i32⟩
  | 56 => ⟨S32x2x1, .i1⟩
  | 57 => ⟨S1x1x1, .i32⟩
  | 58 => ⟨S32x2x1, .i32⟩
  | 59 => ⟨S32x2x1, .i1⟩
  | 60 => ⟨S32x2x1, .i1⟩
  | 61 => ⟨S_, .i1⟩
  | 62 => ⟨S32x2, .i1⟩
  | 63 => ⟨S32x2x1536x768, .f32⟩
  | 64 => ⟨S32x2x1536x768, .i1⟩
  | 65 => ⟨S_, .f32⟩
  | 66 => ⟨S32x2x1536x768, .f32⟩
  | 67 => ⟨S32x2x1536x768, .f32⟩
  | 68 => ⟨S_, .i32⟩
  | 69 => ⟨S32x2, .i32⟩
  | 70 => ⟨S32x2, .i1⟩
  | 71 => ⟨S_, .i32⟩
  | 72 => ⟨S32x2, .i32⟩
  | 73 => ⟨S32x2, .i32⟩
  | 74 => ⟨S32x2, .i32⟩
  | 75 => ⟨S32x2x1, .i32⟩
  | 76 => ⟨S1, .i32⟩
  | 77 => ⟨S_, .i32⟩
  | 78 => ⟨S32x2x1, .i32⟩
  | 79 => ⟨S32x2x1, .i1⟩
  | 80 => ⟨S1x1x1, .i32⟩
  | 81 => ⟨S32x2x1, .i32⟩
  | 82 => ⟨S32x2x1, .i1⟩
  | 83 => ⟨S32x2x1, .i1⟩
  | 84 => ⟨S_, .i1⟩
  | 85 => ⟨S32x2, .i1⟩
  | 86 => ⟨S32x2x1536, .f32⟩
  | 87 => ⟨S32x2x1536, .i1⟩
  | 88 => ⟨S_, .f32⟩
  | 89 => ⟨S32x2x1536, .f32⟩
  | 90 => ⟨S32x2x1536, .f32⟩
  | 91 => ⟨S32x2x1536, .f32⟩
  | 92 => ⟨S32x2x1536, .f32⟩
  | 93 => ⟨S32x2x768, .f32⟩
  | 94 => ⟨S32x2x768, .f32⟩
  | 95 => ⟨S_, .f32⟩
  | 96 => ⟨S32x2x768, .f32⟩
  | 97 => ⟨S32x2x768, .f32⟩
  | 98 => ⟨S_, .f32⟩
  | 99 => ⟨S_, .f32⟩
  | 100 => ⟨S_, .f32⟩
  | 101 => ⟨S32x2x768, .f32⟩
  | 102 => ⟨S32x2x768, .f32⟩
  | 103 => ⟨S_, .f32⟩
  | 104 => ⟨S32x2x768, .f32⟩
  | 105 => ⟨S32x2x768, .f32⟩
  | 106 => ⟨S_, .f32⟩
  | 107 => ⟨S32x2x768, .f32⟩
  | 108 => ⟨S32x2x768, .f32⟩
  | 109 => ⟨S32x2x768, .f32⟩
  | 110 => ⟨S32x2x768, .f32⟩
  | 111 => ⟨S_, .f32⟩
  | 112 => ⟨S32x2x768, .f32⟩
  | 113 => ⟨S32x2x768, .f32⟩
  | 114 => ⟨S_, .f32⟩
  | 115 => ⟨S32x2x768, .f32⟩
  | 116 => ⟨S32x2x768, .f32⟩
  | 117 => ⟨S32x2x768, .f32⟩
  | 118 => ⟨S_, .f32⟩
  | 119 => ⟨S32x2x768, .f32⟩
  | 120 => ⟨S32x2x768, .f32⟩
  | 121 => ⟨S32x2x768, .f32⟩
  | 122 => ⟨S_, .i32⟩
  | 123 => ⟨S32x2, .i32⟩
  | 124 => ⟨S32x2, .i1⟩
  | 125 => ⟨S_, .i32⟩
  | 126 => ⟨S32x2, .i32⟩
  | 127 => ⟨S32x2, .i32⟩
  | _ => ⟨S32x768, .f32⟩

abbrev hbmTy0_1 (i : Nat) : BufTy := match i % 128 with
  | 0 => ⟨S32x2, .i32⟩
  | 1 => ⟨S32x2x1, .i32⟩
  | 2 => ⟨S1, .i32⟩
  | 3 => ⟨S_, .i32⟩
  | 4 => ⟨S32x2x1, .i32⟩
  | 5 => ⟨S32x2x1, .i1⟩
  | 6 => ⟨S1x1x1, .i32⟩
  | 7 => ⟨S32x2x1, .i32⟩
  | 8 => ⟨S32x2x1, .i1⟩
  | 9 => ⟨S32x2x1, .i1⟩
  | 10 => ⟨S_, .i1⟩
  | 11 => ⟨S32x2, .i1⟩
  | 12 => ⟨S32x2x768x768, .f32⟩
  | 13 => ⟨S32x2x768x768, .i1⟩
  | 14 => ⟨S_, .f32⟩
  | 15 => ⟨S32x2x768x768, .f32⟩
  | 16 => ⟨S32x2x768x768, .f32⟩
  | 17 => ⟨S_, .i32⟩
  | 18 => ⟨S32x2, .i32⟩
  | 19 => ⟨S32x2, .i1⟩
  | 20 => ⟨S_, .i32⟩
  | 21 => ⟨S32x2, .i32⟩
  | 22 => ⟨S32x2, .i32⟩
  | 23 => ⟨S32x2, .i32⟩
  | 24 => ⟨S32x2x1, .i32⟩
  | 25 => ⟨S1, .i32⟩
  | 26 => ⟨S_, .i32⟩
  | 27 => ⟨S32x2x1, .i32⟩
  | 28 => ⟨S32x2x1, .i1⟩
  | 29 => ⟨S1x1x1, .i32⟩
  | 30 => ⟨S32x2x1, .i32⟩
  | 31 => ⟨S32x2x1, .i1⟩
  | 32 => ⟨S32x2x1, .i1⟩
  | 33 => ⟨S_, .i1⟩
  | 34 => ⟨S32x2, .i1⟩
  | 35 => ⟨S32x2x768, .f32⟩
  | 36 => ⟨S32x2x768, .i1⟩
  | 37 => ⟨S_, .f32⟩
  | 38 => ⟨S32x2x768, .f32⟩
  | 39 => ⟨S32x2x768, .f32⟩
  | 40 => ⟨S32x2x768, .f32⟩
  | 41 => ⟨S32x2x768, .f32⟩
  | 42 => ⟨S32x768, .f32⟩
  | 43 => ⟨S32x768, .f32⟩
  | _ => ⟨S32x768, .f32⟩

abbrev hbmTy (i : Nat) : BufTy := match i / 128 with
  | 0 => hbmTy0_0 i
  | 1 => hbmTy0_1 i
  | _ => ⟨S32x768, .f32⟩

abbrev bufTy : (tb : Table) → Fin (tcTables nBuf tb) → BufTy
  | .hbm, ⟨i, _⟩ => hbmTy i
  | _, _ => ⟨S32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_values : Ref sig .tc := ⟨.hbm, 29, rfl⟩
abbrev main_indices : Ref sig .tc := ⟨.hbm, 30, rfl⟩
abbrev main_cst_2 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_c : Ref sig .tc := ⟨.hbm, 45, rfl⟩
abbrev main_call0_v0 : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_c_1 : Ref sig .tc := ⟨.hbm, 53, rfl⟩
abbrev main_call0_c_2 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_3 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_call0_cst : Ref sig .tc := ⟨.hbm, 65, rfl⟩
abbrev main_call0_v15 : Ref sig .tc := ⟨.hbm, 66, rfl⟩
abbrev main_v29 : Ref sig .tc := ⟨.hbm, 67, rfl⟩
abbrev main_call1_c : Ref sig .tc := ⟨.hbm, 68, rfl⟩
abbrev main_call1_v0 : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_c_1 : Ref sig .tc := ⟨.hbm, 76, rfl⟩
abbrev main_call1_c_2 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_3 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_call1_cst : Ref sig .tc := ⟨.hbm, 88, rfl⟩
abbrev main_call1_v15 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_cst_5 : Ref sig .tc := ⟨.hbm, 95, rfl⟩
abbrev main_v35 : Ref sig .tc := ⟨.hbm, 96, rfl⟩
abbrev main_v36 : Ref sig .tc := ⟨.hbm, 97, rfl⟩
abbrev main_cst_6 : Ref sig .tc := ⟨.hbm, 98, rfl⟩
abbrev main_cst_7 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v37 : Ref sig .tc := ⟨.hbm, 105, rfl⟩
abbrev main_cst_8 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_cst_9 : Ref sig .tc := ⟨.hbm, 111, rfl⟩
abbrev main_v42 : Ref sig .tc := ⟨.hbm, 112, rfl⟩
abbrev main_v43 : Ref sig .tc := ⟨.hbm, 113, rfl⟩
abbrev main_cst_10 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_cst_11 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_call3_c : Ref sig .tc := ⟨.hbm, 122, rfl⟩
abbrev main_call3_v0 : Ref sig .tc := ⟨.hbm, 123, rfl⟩
abbrev main_call3_v1 : Ref sig .tc := ⟨.hbm, 124, rfl⟩
abbrev main_call3_c_0 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_c_1 : Ref sig .tc := ⟨.hbm, 130, rfl⟩
abbrev main_call3_c_2 : Ref sig .tc := ⟨.hbm, 131, rfl⟩
abbrev main_call3_v6 : Ref sig .tc := ⟨.hbm, 132, rfl⟩
abbrev main_call3_v7 : Ref sig .tc := ⟨.hbm, 133, rfl⟩
abbrev main_call3_v8 : Ref sig .tc := ⟨.hbm, 134, rfl⟩
abbrev main_call3_v9 : Ref sig .tc := ⟨.hbm, 135, rfl⟩
abbrev main_call3_v10 : Ref sig .tc := ⟨.hbm, 136, rfl⟩
abbrev main_call3_v11 : Ref sig .tc := ⟨.hbm, 137, rfl⟩
abbrev main_call3_c_3 : Ref sig .tc := ⟨.hbm, 138, rfl⟩
abbrev main_call3_v12 : Ref sig .tc := ⟨.hbm, 139, rfl⟩
abbrev main_call3_v13 : Ref sig .tc := ⟨.hbm, 140, rfl⟩
abbrev main_call3_v14 : Ref sig .tc := ⟨.hbm, 141, rfl⟩
abbrev main_call3_cst : Ref sig .tc := ⟨.hbm, 142, rfl⟩
abbrev main_call3_v15 : Ref sig .tc := ⟨.hbm, 143, rfl⟩
abbrev main_v50 : Ref sig .tc := ⟨.hbm, 144, rfl⟩
abbrev main_call4_c : Ref sig .tc := ⟨.hbm, 145, rfl⟩
abbrev main_call4_v0 : Ref sig .tc := ⟨.hbm, 146, rfl⟩
abbrev main_call4_v1 : Ref sig .tc := ⟨.hbm, 147, rfl⟩
abbrev main_call4_c_0 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_c_1 : Ref sig .tc := ⟨.hbm, 153, rfl⟩
abbrev main_call4_c_2 : Ref sig .tc := ⟨.hbm, 154, rfl⟩
abbrev main_call4_v6 : Ref sig .tc := ⟨.hbm, 155, rfl⟩
abbrev main_call4_v7 : Ref sig .tc := ⟨.hbm, 156, rfl⟩
abbrev main_call4_v8 : Ref sig .tc := ⟨.hbm, 157, rfl⟩
abbrev main_call4_v9 : Ref sig .tc := ⟨.hbm, 158, rfl⟩
abbrev main_call4_v10 : Ref sig .tc := ⟨.hbm, 159, rfl⟩
abbrev main_call4_v11 : Ref sig .tc := ⟨.hbm, 160, rfl⟩
abbrev main_call4_c_3 : Ref sig .tc := ⟨.hbm, 161, rfl⟩
abbrev main_call4_v12 : Ref sig .tc := ⟨.hbm, 162, rfl⟩
abbrev main_call4_v13 : Ref sig .tc := ⟨.hbm, 163, rfl⟩
abbrev main_call4_v14 : Ref sig .tc := ⟨.hbm, 164, rfl⟩
abbrev main_call4_cst : Ref sig .tc := ⟨.hbm, 165, rfl⟩
abbrev main_call4_v15 : Ref sig .tc := ⟨.hbm, 166, rfl⟩
abbrev main_v51 : Ref sig .tc := ⟨.hbm, 167, rfl⟩
abbrev main_v52 : Ref sig .tc := ⟨.hbm, 168, rfl⟩
abbrev main_v53 : Ref sig .tc := ⟨.hbm, 169, rfl⟩
abbrev main_v54 : Ref sig .tc := ⟨.hbm, 170, rfl⟩
abbrev main_v55 : Ref sig .tc := ⟨.hbm, 171, rfl⟩

abbrev nD : Nat := 1
abbrev τ : Topo := Topo.v7x

variable {F : FTy → Type} [FloatOps F]
-- ==== Proof.Hand.RingI.lean ====
/- The three streams of the kernel: an expert's up-projection in two halves of 768 rows, and its down-projection, each copied
   two experts ahead into three slots of a scratch buffer. Here: the names of the slots, blocks and cells, what each of them
   holds between two steps, and how the launch's buffers are cut into them and put together again. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

instance : NeZero grid0.N := ⟨by rw [N_0]; decide⟩

/-! ## Names -/

/-- The buffers of the streams: the slots of the up-projection and of the down-projection, and the two operands copied from. -/
abbrev tM : Memref sig .tc .vmem S32x768 .bf16 := Memref.whole cc0_scratch0
abbrev rM : Memref sig .tc .vmem S32x16 .f32 := Memref.whole cc0_scratch1
abbrev w1M : Memref sig .tc .vmem S3x1536x768 .f32 := Memref.whole cc0_scratch2
abbrev w2M : Memref sig .tc .vmem S3x768x768 .f32 := Memref.whole cc0_scratch3
abbrev e1M : Memref sig .tc .hbm S16x1536x768 .f32 := Memref.whole main_arg4
abbrev e2M : Memref sig .tc .hbm S16x768x768 .f32 := Memref.whole main_arg6

/-- What the buffer of a memref holds on core `c`. -/
abbrev Held (c : Dev nD) {sp : Space} {S : Shape} {e : EltTy} (M : Memref sig .tc sp S e) : Type := Buf (Elt F) (M.view.loc (c : Thread nD τ))

theorem rowA : 0 ≤ 768 := Nat.zero_le _
theorem rowB : 768 ≤ 768 := Nat.le_refl _
theorem cell0 : 0 ≤ 2 := Nat.zero_le _
theorem cell1 : 1 ≤ 2 := by decide
theorem cell2 : 2 ≤ 2 := Nat.le_refl _

theorem inb_w1slot {r : ℕ} (hr : r ≤ 768) (s : Fin 3) : ∀ a, (![s.val, r, 0] : Fin 3 → Nat) a + S1x768x768.size a ≤ S3x1536x768.size a := by
  have := s.isLt; intro a; fin_cases a <;> simp <;> omega
theorem inb_w1src {r : ℕ} (hr : r ≤ 768) (b : Fin 16) : ∀ a, (![b.val, r, 0] : Fin 3 → Nat) a + S1x768x768.size a ≤ S16x1536x768.size a := by
  have := b.isLt; intro a; fin_cases a <;> simp <;> omega
theorem inb_w2slot (s : Fin 3) : ∀ a, (![s.val, 0, 0] : Fin 3 → Nat) a + S1x768x768.size a ≤ S3x768x768.size a := by
  have := s.isLt; intro a; fin_cases a <;> simp <;> omega
theorem inb_w2src (b : Fin 16) : ∀ a, (![b.val, 0, 0] : Fin 3 → Nat) a + S1x768x768.size a ≤ S16x768x768.size a := by
  have := b.isLt; intro a; fin_cases a <;> simp <;> omega
theorem inb_cell {k : ℕ} (hk : k ≤ 2) (s : Fin 3) : ∀ a, (![k, s.val] : Fin 2 → Nat) a + S1x1.size a ≤ S3x3.size a := by
  have := s.isLt; intro a; fin_cases a <;> simp <;> omega

/-- Slot `s` of the up-projection, the half from row `r` on; block `b` of that half. -/
def w1slot {r : ℕ} (hr : r ≤ 768) (s : Fin 3) : Memref sig .tc .vmem S1x768x768 .f32 :=
  w1M.slice (Rect.unit (s := S3x1536x768) ![s.val, r, 0] S1x768x768.size (inb_w1slot hr s)) (fun _ => rfl)
def w1src {r : ℕ} (hr : r ≤ 768) (b : Fin 16) : Memref sig .tc .hbm S1x768x768 .f32 :=
  e1M.slice (Rect.unit (s := S16x1536x768) ![b.val, r, 0] S1x768x768.size (inb_w1src hr b)) (fun _ => rfl)
/-- Slot `s` and block `b` of the down-projection. -/
def w2slot (s : Fin 3) : Memref sig .tc .vmem S1x768x768 .f32 :=
  w2M.slice (Rect.unit (s := S3x768x768) ![s.val, 0, 0] S1x768x768.size (inb_w2slot s)) (fun _ => rfl)
def w2src (b : Fin 16) : Memref sig .tc .hbm S1x768x768 .f32 :=
  e2M.slice (Rect.unit (s := S16x768x768) ![b.val, 0, 0] S1x768x768.size (inb_w2src b)) (fun _ => rfl)
/-- Row `k` of the cells, cell `s`. -/
def semCell {k : ℕ} (hk : k ≤ 2) (s : Fin 3) : DmaSems sig S_ :=
  (cc0_scratch4.slice (Rect.unit (s := S3x3) ![k, s.val] S1x1.size (inb_cell hk s))).squeeze S_ squeezes_S1x1_S_

/-- A share cut in three, one part per slot. -/
abbrev third (q : PosShare TreeShare) (s : Fin 3) : PosShare TreeShare := if s.val = 0 then q.left else if s.val = 1 then q.right.left else q.right.right

/-! ## What a stream holds -/

section Families
variable (slot : Fin 3 → Memref sig .tc .vmem S1x768x768 .f32) (src : Fin 16 → Memref sig .tc .hbm S1x768x768 .f32)
  (cell : Fin 3 → DmaSems sig S_) (q : Fin 3 → PosShare TreeShare) (c : Dev nD) (W : (b : Fin 16) → Held (F := F) c (src b))

abbrev slotP (s : Fin 3) (f : Held (F := F) c (slot s)) : sProp 𝕄 := (slot s).view.loc (c : Thread nD τ) ↦[(slot s).view.set]{fullShare} f
abbrev cellP (s : Fin 3) : sProp 𝕄 := semVal ((c : Thread nD τ), SemLoc.dma (cell s).sem) 0
abbrev srcP (s : Fin 3) (b : Fin 16) : sProp 𝕄 := (src b).view.loc (c : Thread nD τ) ↦[(src b).view.set]{q s} W b
/-- A slot after block `b` has landed in it. -/
abbrev landed (s : Fin 3) (b : Fin 16) (f : Held (F := F) c (slot s)) : Held (F := F) c (slot s) :=
  (slot s).view.writes (Elt F) f [⟨Rect.whole S1x768x768, ReadAs.same.apply ((src b).view.read (Elt F) (W b))⟩]
/-- Block `b` on its way into slot `s`. -/
abbrev flightP (s : Fin 3) (b : Fin 16) (f : Held (F := F) c (slot s)) : sProp 𝕄 :=
  Transfers.Flight countersEmb (c : Thread nD τ) (SemLoc.dma (cell s).sem) default ((slot s).view.amount (SemLoc.dma (cell s).sem))
    iprop(slotP slot c s (landed slot src c W s b f) ∗ srcP src q c W s b)
end Families

/-- No block is kept apart from the slots. -/
abbrev noHome (b : Fin 16) : sProp 𝕄 := iprop(emp)

section Streams
variable {r k : ℕ} (hr : r ≤ 768) (hk : k ≤ 2) (q : PosShare TreeShare) (c : Dev nD)

abbrev whole1 (W : Held (F := F) c e1M) (s : Fin 3) : sProp 𝕄 := ((c : Thread nD τ).loc main_arg4) ↦[Finset.univ]{third q s} W
def rest1 (W : Held (F := F) c e1M) (s : Fin 3) (b : Fin 16) : sProp 𝕄 := ((c : Thread nD τ).loc main_arg4) ↦[Finset.univ \ (w1src hr b).view.set]{third q s} W
abbrev whole2 (W : Held (F := F) c e2M) (s : Fin 3) : sProp 𝕄 := ((c : Thread nD τ).loc main_arg6) ↦[Finset.univ]{third q s} W
def rest2 (W : Held (F := F) c e2M) (s : Fin 3) (b : Fin 16) : sProp 𝕄 := ((c : Thread nD τ).loc main_arg6) ↦[Finset.univ \ (w2src b).view.set]{third q s} W

/-- A half of the up-projection: an idle slot with its part of the operand; a copy under way with the rest of that part. -/
abbrev idle1 (W : Held (F := F) c e1M) (s : Fin 3) (f : Held (F := F) c (w1slot hr s)) : sProp 𝕄 := iprop(slotP (w1slot hr) c s f ∗ whole1 q c W s)
abbrev busy1 (W : Held (F := F) c e1M) (s : Fin 3) (b : Fin 16) (f : Held (F := F) c (w1slot hr s)) : sProp 𝕄 :=
  iprop(flightP (w1slot hr) (w1src hr) (semCell hk) (third q) c (fun _ => W) s b f ∗ rest1 hr q c W s b)
/-- The down-projection likewise. -/
abbrev idle2 (W : Held (F := F) c e2M) (s : Fin 3) (f : Held (F := F) c (w2slot s)) : sProp 𝕄 := iprop(slotP w2slot c s f ∗ whole2 q c W s)
abbrev busy2 (W : Held (F := F) c e2M) (s : Fin 3) (b : Fin 16) (f : Held (F := F) c (w2slot s)) : sProp 𝕄 :=
  iprop(flightP w2slot w2src (semCell hk) (third q) c (fun _ => W) s b f ∗ rest2 q c W s b)

theorem part1 (W : Held (F := F) c e1M) (s : Fin 3) (b : Fin 16) :
    whole1 (F := F) q c W s ⊣⊢ iprop(srcP (w1src hr) (third q) c (fun _ => W) s b ∗ rest1 hr q c W s b) := by
  unfold rest1; exact pointsTo_split_subset (Finset.subset_univ _)
theorem part2 (W : Held (F := F) c e2M) (s : Fin 3) (b : Fin 16) :
    whole2 (F := F) q c W s ⊣⊢ iprop(srcP w2src (third q) c (fun _ => W) s b ∗ rest2 q c W s b) := by
  unfold rest2; exact pointsTo_split_subset (Finset.subset_univ _)

/-- The operand held at `q` is its three parts. -/
theorem thirds (b : Ref sig .tc) (W : Buf (Elt F) ((c : Thread nD τ).loc b)) :
    ((((c : Thread nD τ).loc b) ↦[Finset.univ]{q} W : sProp 𝕄)) ⊣⊢ iprop((((c : Thread nD τ).loc b) ↦[Finset.univ]{third q 0} W) ∗ (((c : Thread nD τ).loc b) ↦[Finset.univ]{third q 1} W) ∗ (((c : Thread nD τ).loc b) ↦[Finset.univ]{third q 2} W)) := by
  refine ⟨?_, ?_⟩
  · iintro H
    ihave H' := (pointsTo_share (PosShare.mem_left_op_right q)).1 $$ H
    icases H' with ⟨H0, H12⟩
    ihave H'' := (pointsTo_share (PosShare.mem_left_op_right q.right)).1 $$ H12
    icases H'' with ⟨H1, H2⟩
    isplitl [H0]; · iexact H0
    isplitl [H1]; · iexact H1
    iexact H2
  · iintro ⟨H0, H1, H2⟩
    iapply (pointsTo_share (PosShare.mem_left_op_right q)).2
    isplitl [H0]; · iexact H0
    iapply (pointsTo_share (PosShare.mem_left_op_right q.right)).2
    isplitl [H1]; · iexact H1
    iexact H2

/-- A stream before step `n`: all slots idle before the first; later two copies under way while there are blocks left. -/
def stream1 (W : Held (F := F) c e1M) (n : ℕ) : sProp 𝕄 :=
  if n = 0 then Ring.At₀ (cellP (semCell hk) c) (idle1 hr q c W) noHome
  else Ring.At 2 (cellP (semCell hk) c) (idle1 hr q c W) noHome (busy1 hr hk q c W) n
def stream2 (W : Held (F := F) c e2M) (n : ℕ) : sProp 𝕄 :=
  if n = 0 then Ring.At₀ (cellP (semCell hk) c) (idle2 q c W) noHome
  else Ring.At 2 (cellP (semCell hk) c) (idle2 q c W) noHome (busy2 hk q c W) n
end Streams

/-! ## Into the streams and out of them -/

abbrev box1 (r : ℕ) (hr : r ≤ 768) (s : Fin 3) : Finset S3x1536x768.Idx := (Rect.unit (s := S3x1536x768) ![s.val, r, 0] S1x768x768.size (inb_w1slot hr s)).set
abbrev box2 (s : Fin 3) : Finset S3x768x768.Idx := (Rect.unit (s := S3x768x768) ![s.val, 0, 0] S1x768x768.size (inb_w2slot s)).set
theorem box1_eq {r : ℕ} (hr : r ≤ 768) (s : Fin 3) : (w1slot hr s).view.set = box1 r hr s := by
  simp only [w1slot]; exact View.set_slice_whole _ _
theorem box2_eq (s : Fin 3) : (w2slot s).view.set = box2 s := by
  simp only [w2slot]; exact View.set_slice_whole _ _
theorem box2_disjoint (s s' : Fin 3) (h : s ≠ s') : Disjoint (box2 s) (box2 s') :=
  Ring.lead_disjoint (s := S3x768x768) (0 : Fin 3) 1 (fun s : Fin 3 => (![s.val, 0, 0] : Fin 3 → Nat)) S1x768x768.size inb_w2slot (fun s => by simp) rfl s s' h
theorem box2_cover : Finset.univ.biUnion box2 = Finset.univ :=
  Ring.lead_cover (s := S3x768x768) (0 : Fin 3) 1 (fun s : Fin 3 => (![s.val, 0, 0] : Fin 3 → Nat)) S1x768x768.size inb_w2slot (fun s => by simp)
    (fun s a ha => by fin_cases a <;> first | exact absurd rfl ha | rfl) rfl (fun a ha => by fin_cases a <;> first | exact absurd rfl ha | rfl) rfl

/-- The six parts of the up-projection's scratch: slot and half. -/
abbrev box1h (b : Fin 3 × Fin 2) : Finset S3x1536x768.Idx := box1 (768 * b.2.val) (by have := b.2.isLt; omega) b.1
theorem box1h_disjoint (b b' : Fin 3 × Fin 2) (h : b ≠ b') : Disjoint (box1h b) (box1h b') := by
  rw [Finset.disjoint_left]
  intro i hi hi'
  have h0 := (Rect.mem_set_unit.mp hi) (0 : Fin 3)
  have h0' := (Rect.mem_set_unit.mp hi') (0 : Fin 3)
  have h1 := (Rect.mem_set_unit.mp hi) (1 : Fin 3)
  have h1' := (Rect.mem_set_unit.mp hi') (1 : Fin 3)
  simp [S1x768x768] at h0 h0' h1 h1'
  apply h
  have a := b.2.isLt; have a' := b'.2.isLt
  refine Prod.ext (Fin.ext ?_) (Fin.ext ?_) <;> omega
theorem box1h_cover : Finset.univ.biUnion box1h = Finset.univ := by
  ext i
  simp only [Finset.mem_biUnion, Finset.mem_univ, true_and, iff_true]
  have a0 : (i (0 : Fin 3)).val < 3 := (i (0 : Fin 3)).isLt
  have a1 : (i (1 : Fin 3)).val < 1536 := (i (1 : Fin 3)).isLt
  have a2 : (i (2 : Fin 3)).val < 768 := (i (2 : Fin 3)).isLt
  refine ⟨(⟨(i (0 : Fin 3)).val, a0⟩, ⟨(i (1 : Fin 3)).val / 768, by omega⟩), Rect.mem_set_unit.mpr fun a => ?_⟩
  fin_cases a <;> simp [S1x768x768] <;> omega

section InOut
variable {r k : ℕ} (hr : r ≤ 768) (hk : k ≤ 2) (q : PosShare TreeShare) (c : Dev nD)

theorem slot1_eq (s : Fin 3) (f : Buf (Elt F) ((c : Thread nD τ).loc cc0_scratch2)) :
    slotP (F := F) (w1slot hr) c s f = (((c : Thread nD τ).loc cc0_scratch2) ↦[box1 r hr s]{fullShare} f : sProp 𝕄) := by
  unfold slotP; rw [box1_eq]; rfl
theorem slot2_eq (s : Fin 3) (f : Buf (Elt F) ((c : Thread nD τ).loc cc0_scratch3)) :
    slotP (F := F) w2slot c s f = (((c : Thread nD τ).loc cc0_scratch3) ↦[box2 s]{fullShare} f : sProp 𝕄) := by
  unfold slotP; rw [box2_eq]; rfl

/-- Three slots, each at some contents. -/
abbrev threeSlots (slot : Fin 3 → Memref sig .tc .vmem S1x768x768 .f32) : sProp 𝕄 :=
  iprop((∃ f, slotP (F := F) slot c 0 f) ∗ (∃ f, slotP (F := F) slot c 1 f) ∗ ∃ f, slotP (F := F) slot c 2 f)

theorem slots2_in : iprop(∃ d, owns (c : Thread nD τ) w2M fullShare d) ⊢ (threeSlots c w2slot : sProp 𝕄) := by
  simp only [w2M, owns_whole]
  exact Ring.slots3_split (U := Pipeline.UD sig nD τ) (ℓ := (c : Thread nD τ).loc cc0_scratch3) (q := fullShare) box2 box2_disjoint box2_cover
    (slotP w2slot c 0) (slotP w2slot c 1) (slotP w2slot c 2) (slot2_eq c 0) (slot2_eq c 1) (slot2_eq c 2)
theorem slots2_out : (threeSlots c w2slot : sProp 𝕄) ⊢ iprop(∃ d, owns (c : Thread nD τ) w2M fullShare d) := by
  simp only [w2M, owns_whole]
  exact Ring.slots3_join (U := Pipeline.UD sig nD τ) (ℓ := (c : Thread nD τ).loc cc0_scratch3) (q := fullShare) box2 box2_disjoint box2_cover
    (slotP w2slot c 0) (slotP w2slot c 1) (slotP w2slot c 2) (slot2_eq c 0) (slot2_eq c 1) (slot2_eq c 2)

theorem six_parts (Φ : Fin 3 × Fin 2 → sProp 𝕄) :
    bigSep Finset.univ Φ = iprop(Φ (0, 0) ∗ Φ (1, 0) ∗ Φ (2, 0) ∗ Φ (0, 1) ∗ Φ (1, 1) ∗ Φ (2, 1)) := by
  rw [BI.bigSep_eq_bigSepL_of_eq [(0, 0), (1, 0), (2, 0), (0, 1), (1, 1), (2, 1)] (by decide) (by decide)]; rfl

theorem slots1_in : iprop(∃ d, owns (c : Thread nD τ) w1M fullShare d) ⊢ (iprop(threeSlots c (w1slot rowA) ∗ threeSlots c (w1slot rowB)) : sProp 𝕄) := by
  simp only [w1M, owns_whole]
  iintro ⟨%f, H⟩
  ihave H6 := (Entails.of_eq ((Ring.pointsTo_blocks (U := Pipeline.UD sig nD τ) (ℓ := (c : Thread nD τ).loc cc0_scratch2) box1h box1h_disjoint box1h_cover f).trans (six_parts _))) $$ H
  icases H6 with ⟨H0, H1, H2, H3, H4, H5⟩
  isplitl [H0 H1 H2]
  · isplitl [H0]; · iexists f; iapply (Entails.of_eq (slot1_eq rowA c 0 f).symm); iexact H0
    isplitl [H1]; · iexists f; iapply (Entails.of_eq (slot1_eq rowA c 1 f).symm); iexact H1
    iexists f; iapply (Entails.of_eq (slot1_eq rowA c 2 f).symm); iexact H2
  · isplitl [H3]; · iexists f; iapply (Entails.of_eq (slot1_eq rowB c 0 f).symm); iexact H3
    isplitl [H4]; · iexists f; iapply (Entails.of_eq (slot1_eq rowB c 1 f).symm); iexact H4
    iexists f; iapply (Entails.of_eq (slot1_eq rowB c 2 f).symm); iexact H5
theorem slots1_out : (iprop(threeSlots c (w1slot rowA) ∗ threeSlots c (w1slot rowB)) : sProp 𝕄) ⊢ iprop(∃ d, owns (c : Thread nD τ) w1M fullShare d) := by
  simp only [w1M, owns_whole]
  iintro ⟨⟨⟨%f0, H0⟩, ⟨%f1, H1⟩, ⟨%f2, H2⟩⟩, ⟨⟨%f3, H3⟩, ⟨%f4, H4⟩, ⟨%f5, H5⟩⟩⟩
  iapply (Ring.pointsTo_blocks_join_exists (U := Pipeline.UD sig nD τ) (ℓ := (c : Thread nD τ).loc cc0_scratch2) box1h box1h_disjoint box1h_cover f0)
  iapply (Entails.of_eq (six_parts _).symm)
  isplitl [H0]; · iexists f0; iapply (Entails.of_eq (slot1_eq rowA c 0 f0)); iexact H0
  isplitl [H1]; · iexists f1; iapply (Entails.of_eq (slot1_eq rowA c 1 f1)); iexact H1
  isplitl [H2]; · iexists f2; iapply (Entails.of_eq (slot1_eq rowA c 2 f2)); iexact H2
  isplitl [H3]; · iexists f3; iapply (Entails.of_eq (slot1_eq rowB c 0 f3)); iexact H3
  isplitl [H4]; · iexists f4; iapply (Entails.of_eq (slot1_eq rowB c 1 f4)); iexact H4
  iexists f5; iapply (Entails.of_eq (slot1_eq rowB c 2 f5)); iexact H5

/-- Three cells at zero. -/
abbrev threeCells : sProp 𝕄 := iprop(cellP (F := F) (semCell hk) c 0 ∗ cellP (F := F) (semCell hk) c 1 ∗ cellP (F := F) (semCell hk) c 2)

/-- Slots, cells and operand of any stream are that stream with every slot idle, -/
theorem idle_in {C : Fin 3 → Type} (cell : Fin 3 → sProp 𝕄) (slot : (s : Fin 3) → C s → sProp 𝕄) (wh : Fin 3 → sProp 𝕄) :
    iprop(((∃ f, slot 0 f) ∗ (∃ f, slot 1 f) ∗ ∃ f, slot 2 f) ∗ (cell 0 ∗ cell 1 ∗ cell 2) ∗ (wh 0 ∗ wh 1 ∗ wh 2))
      ⊢ Ring.At₀ cell (fun s f => iprop(slot s f ∗ wh s)) (noHome (F := F)) := by
  unfold Ring.At₀
  rw [Ring.bigSep_fin3]
  simp only [Ring.free]
  iintro ⟨⟨⟨%d0, S0⟩, ⟨%d1, S1⟩, ⟨%d2, S2⟩⟩, ⟨C0, C1, C2⟩, ⟨W0, W1, W2⟩⟩
  iapply Ring.with_homes₀
  isplitl [C0 S0 W0]
  · isplitl [C0]; · iexact C0
    iexists d0; isplitl [S0]; · iexact S0
    iexact W0
  isplitl [C1 S1 W1]
  · isplitl [C1]; · iexact C1
    iexists d1; isplitl [S1]; · iexact S1
    iexact W1
  · isplitl [C2]; · iexact C2
    iexists d2; isplitl [S2]; · iexact S2
    iexact W2
/-- and so they are again after the last block. -/
theorem idle_out {C : Fin 3 → Type} (cell : Fin 3 → sProp 𝕄) (slot : (s : Fin 3) → C s → sProp 𝕄) (wh : Fin 3 → sProp 𝕄)
    (flight : (s : Fin 3) → Fin 16 → C s → sProp 𝕄) :
    Ring.At 2 cell (fun s f => iprop(slot s f ∗ wh s)) (noHome (F := F)) flight 16
      ⊢ iprop(((∃ f, slot 0 f) ∗ (∃ f, slot 1 f) ∗ ∃ f, slot 2 f) ∗ (cell 0 ∗ cell 1 ∗ cell 2) ∗ (wh 0 ∗ wh 1 ∗ wh 2)) := by
  iintro H
  ihave H' := (Ring.free3_of_At_last _ _ _ _) $$ H
  simp only [Ring.free]
  icases H' with ⟨-, ⟨C0, ⟨%f0, S0, W0⟩⟩, ⟨C1, ⟨%f1, S1, W1⟩⟩, ⟨C2, ⟨%f2, S2, W2⟩⟩⟩
  isplitl [S0 S1 S2]
  · isplitl [S0]; · iexists f0; iexact S0
    isplitl [S1]; · iexists f1; iexact S1
    iexists f2; iexact S2
  isplitl [C0 C1 C2]
  · isplitl [C0]; · iexact C0
    isplitl [C1]; · iexact C1
    iexact C2
  · isplitl [W0]; · iexact W0
    isplitl [W1]; · iexact W1
    iexact W2

theorem stream1_in (W : Held (F := F) c e1M) :
    iprop(threeSlots c (w1slot hr) ∗ threeCells hk c ∗ (whole1 q c W 0 ∗ whole1 q c W 1 ∗ whole1 q c W 2)) ⊢ stream1 hr hk q c W 0 := by
  unfold stream1; rw [if_pos rfl]
  exact idle_in (cellP (semCell hk) c) (slotP (w1slot hr) c) (whole1 q c W)
theorem stream1_out (W : Held (F := F) c e1M) :
    stream1 hr hk q c W 16 ⊢ iprop(threeSlots c (w1slot hr) ∗ threeCells hk c ∗ (whole1 q c W 0 ∗ whole1 q c W 1 ∗ whole1 q c W 2)) := by
  unfold stream1; rw [if_neg (by decide)]
  exact idle_out (cellP (semCell hk) c) (slotP (w1slot hr) c) (whole1 q c W) (busy1 hr hk q c W)
theorem stream2_in (W : Held (F := F) c e2M) :
    iprop(threeSlots c w2slot ∗ threeCells hk c ∗ (whole2 q c W 0 ∗ whole2 q c W 1 ∗ whole2 q c W 2)) ⊢ stream2 hk q c W 0 := by
  unfold stream2; rw [if_pos rfl]
  exact idle_in (cellP (semCell hk) c) (slotP w2slot c) (whole2 q c W)
theorem stream2_out (W : Held (F := F) c e2M) :
    stream2 hk q c W 16 ⊢ iprop(threeSlots c w2slot ∗ threeCells hk c ∗ (whole2 q c W 0 ∗ whole2 q c W 1 ∗ whole2 q c W 2)) := by
  unfold stream2; rw [if_neg (by decide)]
  exact idle_out (cellP (semCell hk) c) (slotP w2slot c) (whole2 q c W) (busy2 hk q c W)
end InOut

/-! ## The body's own spelling of slots, blocks and cells -/

section Names
omit [FloatOps F] [Named F]

abbrev isFirst (i : grid0.Coords) : Prop := (Scalar.cmpi .ne (Scalar.extui (Scalar.cmpi .eq (BitVec.ofNat 32 (i 0).val) 0#32)) 0#32) = 1#1
abbrev hasAhead (i : grid0.Coords) : Prop := k0_cond2 i = 1#1
abbrev isFresh (i : grid0.Coords) : Prop := k0_cond4 i = 1#1
abbrev isLater (i : grid0.Coords) : Prop := k0_cond5 i = 1#1

theorem isFirst_iff : ∀ t : Fin grid0.N, isFirst (grid0.coords t) ↔ t.val = 0 := by decide +kernel
theorem hasAhead_iff : ∀ t : Fin grid0.N, hasAhead (grid0.coords t) ↔ t.val < 14 := by decide +kernel
theorem isFresh_iff : ∀ t : Fin grid0.N, isFresh (grid0.coords t) ↔ t.val = 0 := by decide +kernel
theorem isLater_iff : ∀ t : Fin grid0.N, isLater (grid0.coords t) ↔ t.val ≠ 0 := by decide +kernel

theorem name_w1slot {r : ℕ} (hr : r ≤ 768) {o : Fin 3 → ℕ} {n : ℕ} (h : o = ![(Ring.sl 3 n).val, r, 0]) (hi) :
    w1M.slice (Rect.unit (s := S3x1536x768) o S1x768x768.size hi) (fun _ => rfl) = w1slot hr (Ring.sl 3 n) :=
  congrArg (fun M : Memref sig .tc .vmem S1x768x768 .f32 => M) (Memref.slice_unit_congr _ h _ _ (fun _ => rfl) (fun _ => rfl))
theorem name_w1src {r : ℕ} (hr : r ≤ 768) {o : Fin 3 → ℕ} {n : ℕ} (h : o = ![(Ring.bk 16 n).val, r, 0]) (hi) :
    e1M.slice (Rect.unit (s := S16x1536x768) o S1x768x768.size hi) (fun _ => rfl) = w1src hr (Ring.bk 16 n) :=
  congrArg (fun M : Memref sig .tc .hbm S1x768x768 .f32 => M) (Memref.slice_unit_congr _ h _ _ (fun _ => rfl) (fun _ => rfl))
theorem name_w2slot {o : Fin 3 → ℕ} {n : ℕ} (h : o = ![(Ring.sl 3 n).val, 0, 0]) (hi) :
    w2M.slice (Rect.unit (s := S3x768x768) o S1x768x768.size hi) (fun _ => rfl) = w2slot (Ring.sl 3 n) :=
  congrArg (fun M : Memref sig .tc .vmem S1x768x768 .f32 => M) (Memref.slice_unit_congr _ h _ _ (fun _ => rfl) (fun _ => rfl))
theorem name_w2src {o : Fin 3 → ℕ} {n : ℕ} (h : o = ![(Ring.bk 16 n).val, 0, 0]) (hi) :
    e2M.slice (Rect.unit (s := S16x768x768) o S1x768x768.size hi) (fun _ => rfl) = w2src (Ring.bk 16 n) :=
  congrArg (fun M : Memref sig .tc .hbm S1x768x768 .f32 => M) (Memref.slice_unit_congr _ h _ _ (fun _ => rfl) (fun _ => rfl))
theorem name_cell {k : ℕ} (hk : k ≤ 2) {o : Fin 2 → ℕ} {n : ℕ} (h : o = ![k, (Ring.sl 3 n).val]) (hi) :
    (cc0_scratch4.slice (Rect.unit (s := S3x3) o S1x1.size hi)).squeeze S_ squeezes_S1x1_S_ = semCell hk (Ring.sl 3 n) :=
  congrArg (fun A : DmaSems sig S1x1 => A.squeeze S_ squeezes_S1x1_S_) (SemArray.slice_unit_congr _ h _ _)

theorem off1_at : ∀ t : Fin grid0.N, k0_off1 (grid0.coords t) = ![0, (Ring.sl 3 (t.val + 2)).val] := by decide +kernel
theorem off2_at : ∀ t : Fin grid0.N, k0_off2 (grid0.coords t) = ![(Ring.sl 3 (t.val + 2)).val, 0, 0] := by decide +kernel
theorem off3_at : ∀ t : Fin grid0.N, hasAhead (grid0.coords t) → k0_off3 (grid0.coords t) = ![(Ring.bk 16 (t.val + 2)).val, 0, 0] := by decide +kernel
theorem off4_at : ∀ t : Fin grid0.N, k0_off4 (grid0.coords t) = ![1, (Ring.sl 3 (t.val + 2)).val] := by decide +kernel
theorem off5_at : ∀ t : Fin grid0.N, k0_off5 (grid0.coords t) = ![(Ring.sl 3 (t.val + 2)).val, 768, 0] := by decide +kernel
theorem off6_at : ∀ t : Fin grid0.N, hasAhead (grid0.coords t) → k0_off6 (grid0.coords t) = ![(Ring.bk 16 (t.val + 2)).val, 768, 0] := by decide +kernel
theorem off7_at : ∀ t : Fin grid0.N, k0_off7 (grid0.coords t) = ![2, (Ring.sl 3 (t.val + 2)).val] := by decide +kernel
theorem off8_at : ∀ t : Fin grid0.N, k0_off8 (grid0.coords t) = ![(Ring.sl 3 (t.val + 2)).val, 0, 0] := by decide +kernel
theorem off9_at : ∀ t : Fin grid0.N, hasAhead (grid0.coords t) → k0_off9 (grid0.coords t) = ![(Ring.bk 16 (t.val + 2)).val, 0, 0] := by decide +kernel
theorem off10_at : ∀ t : Fin grid0.N, k0_off10 (grid0.coords t) = ![0, (Ring.sl 3 t.val).val] := by decide +kernel
theorem off11_at : ∀ t : Fin grid0.N, k0_off11 (grid0.coords t) = ![(Ring.sl 3 t.val).val, 0, 0] := by decide +kernel
theorem off13_at : ∀ t : Fin grid0.N, k0_off13 (grid0.coords t) = ![1, (Ring.sl 3 t.val).val] := by decide +kernel
theorem off14_at : ∀ t : Fin grid0.N, k0_off14 (grid0.coords t) = ![(Ring.sl 3 t.val).val, 768, 0] := by decide +kernel
theorem off16_at : ∀ t : Fin grid0.N, k0_off16 (grid0.coords t) = ![2, (Ring.sl 3 t.val).val] := by decide +kernel
theorem off17_at : ∀ t : Fin grid0.N, k0_off17 (grid0.coords t) = ![(Ring.sl 3 t.val).val, 0, 0] := by decide +kernel
theorem off19_at : ∀ t : Fin grid0.N, k0_off19 (grid0.coords t) = ![(Ring.sl 3 t.val).val, 0, 0] := by decide +kernel
theorem off20_at : ∀ t : Fin grid0.N, k0_off20 (grid0.coords t) = ![(Ring.sl 3 t.val).val, 768, 0] := by decide +kernel
theorem off21_at : ∀ t : Fin grid0.N, k0_off21 (grid0.coords t) = ![(Ring.sl 3 t.val).val, 0, 0] := by decide +kernel

instance (priority := high) closed19 (t : Fin grid0.N) : ClosedOff (k0_off19 (grid0.coords t)) := ⟨![(Ring.sl 3 t.val).val, 0, 0], off19_at t⟩
instance (priority := high) closed20 (t : Fin grid0.N) : ClosedOff (k0_off20 (grid0.coords t)) := ⟨![(Ring.sl 3 t.val).val, 768, 0], off20_at t⟩
instance (priority := high) closed21 (t : Fin grid0.N) : ClosedOff (k0_off21 (grid0.coords t)) := ⟨![(Ring.sl 3 t.val).val, 0, 0], off21_at t⟩

variable (t : Fin grid0.N)
@[sl_canon] theorem name1 (h : hasAhead (grid0.coords t)) :
    (cc0_scratch4.slice (Rect.unit (s := S3x3) (k0_off1 (grid0.coords t)) S1x1.size (k0_off1_inb (grid0.coords t) h))).squeeze S_ squeezes_S1x1_S_ = semCell cell0 (Ring.sl 3 (t.val + 2)) := name_cell cell0 (off1_at t) _
@[sl_canon] theorem name2 (h : hasAhead (grid0.coords t)) :
    w1M.slice (Rect.unit (s := S3x1536x768) (k0_off2 (grid0.coords t)) S1x768x768.size (k0_off2_inb (grid0.coords t) h)) (fun _ => rfl) = w1slot rowA (Ring.sl 3 (t.val + 2)) := name_w1slot rowA (off2_at t) _
@[sl_canon] theorem name3 (h : hasAhead (grid0.coords t)) :
    e1M.slice (Rect.unit (s := S16x1536x768) (k0_off3 (grid0.coords t)) S1x768x768.size (k0_off3_inb (grid0.coords t) h)) (fun _ => rfl) = w1src rowA (Ring.bk 16 (t.val + 2)) := name_w1src rowA (off3_at t h) _
@[sl_canon] theorem name4 (h : hasAhead (grid0.coords t)) :
    (cc0_scratch4.slice (Rect.unit (s := S3x3) (k0_off4 (grid0.coords t)) S1x1.size (k0_off4_inb (grid0.coords t) h))).squeeze S_ squeezes_S1x1_S_ = semCell cell1 (Ring.sl 3 (t.val + 2)) := name_cell cell1 (off4_at t) _
@[sl_canon] theorem name5 (h : hasAhead (grid0.coords t)) :
    w1M.slice (Rect.unit (s := S3x1536x768) (k0_off5 (grid0.coords t)) S1x768x768.size (k0_off5_inb (grid0.coords t) h)) (fun _ => rfl) = w1slot rowB (Ring.sl 3 (t.val + 2)) := name_w1slot rowB (off5_at t) _
@[sl_canon] theorem name6 (h : hasAhead (grid0.coords t)) :
    e1M.slice (Rect.unit (s := S16x1536x768) (k0_off6 (grid0.coords t)) S1x768x768.size (k0_off6_inb (grid0.coords t) h)) (fun _ => rfl) = w1src rowB (Ring.bk 16 (t.val + 2)) := name_w1src rowB (off6_at t h) _
@[sl_canon] theorem name7 (h : hasAhead (grid0.coords t)) :
    (cc0_scratch4.slice (Rect.unit (s := S3x3) (k0_off7 (grid0.coords t)) S1x1.size (k0_off7_inb (grid0.coords t) h))).squeeze S_ squeezes_S1x1_S_ = semCell cell2 (Ring.sl 3 (t.val + 2)) := name_cell cell2 (off7_at t) _
@[sl_canon] theorem name8 (h : hasAhead (grid0.coords t)) :
    w2M.slice (Rect.unit (s := S3x768x768) (k0_off8 (grid0.coords t)) S1x768x768.size (k0_off8_inb (grid0.coords t) h)) (fun _ => rfl) = w2slot (Ring.sl 3 (t.val + 2)) := name_w2slot (off8_at t) _
@[sl_canon] theorem name9 (h : hasAhead (grid0.coords t)) :
    e2M.slice (Rect.unit (s := S16x768x768) (k0_off9 (grid0.coords t)) S1x768x768.size (k0_off9_inb (grid0.coords t) h)) (fun _ => rfl) = w2src (Ring.bk 16 (t.val + 2)) := name_w2src (off9_at t h) _
@[sl_canon] theorem name10 :
    (cc0_scratch4.slice (Rect.unit (s := S3x3) (k0_off10 (grid0.coords t)) S1x1.size (k0_off10_inb (grid0.coords t)))).squeeze S_ squeezes_S1x1_S_ = semCell cell0 (Ring.sl 3 t.val) := name_cell cell0 (off10_at t) _
@[sl_canon] theorem name11 :
    w1M.slice (Rect.unit (s := S3x1536x768) (k0_off11 (grid0.coords t)) S1x768x768.size (k0_off11_inb (grid0.coords t))) (fun _ => rfl) = w1slot rowA (Ring.sl 3 t.val) := name_w1slot rowA (off11_at t) _
@[sl_canon] theorem name13 :
    (cc0_scratch4.slice (Rect.unit (s := S3x3) (k0_off13 (grid0.coords t)) S1x1.size (k0_off13_inb (grid0.coords t)))).squeeze S_ squeezes_S1x1_S_ = semCell cell1 (Ring.sl 3 t.val) := name_cell cell1 (off13_at t) _
@[sl_canon] theorem name14 :
    w1M.slice (Rect.unit (s := S3x1536x768) (k0_off14 (grid0.coords t)) S1x768x768.size (k0_off14_inb (grid0.coords t))) (fun _ => rfl) = w1slot rowB (Ring.sl 3 t.val) := name_w1slot rowB (off14_at t) _
@[sl_canon] theorem name16 :
    (cc0_scratch4.slice (Rect.unit (s := S3x3) (k0_off16 (grid0.coords t)) S1x1.size (k0_off16_inb (grid0.coords t)))).squeeze S_ squeezes_S1x1_S_ = semCell cell2 (Ring.sl 3 t.val) := name_cell cell2 (off16_at t) _
@[sl_canon] theorem name17 :
    w2M.slice (Rect.unit (s := S3x768x768) (k0_off17 (grid0.coords t)) S1x768x768.size (k0_off17_inb (grid0.coords t))) (fun _ => rfl) = w2slot (Ring.sl 3 t.val) := name_w2slot (off17_at t) _
end Names

end Cert.KernelIdeal.Hand

end
-- ==== Proof.Hand.StepI.lean ====
/- One step of the kernel's body: what it leaves in its buffers. -/
module

public import proofs.«01_k».proof.Proof.Hand.RingI

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## What a step adds -/

/-- A block of either operand, as the copy reads it. -/
abbrev blk1 {r : ℕ} (hr : r ≤ 768) (c : Dev nD) (W : Held (F := F) c e1M) (b : Fin 16) : Vec F S1x768x768 .f32 := (w1src hr b).view.read (Elt F) W
abbrev blk2 (c : Dev nD) (W : Held (F := F) c e2M) (b : Fin 16) : Vec F S1x768x768 .f32 := (w2src b).view.read (Elt F) W

/-- One expert's part of the result: from the normed tokens `xt`, the weights `xr` of the experts for each token, the
    expert's three biases, the selection of even columns, and its three weight blocks. -/
def contrib (i : grid0.Coords) (xt : Vec F S32x768 .bf16) (xr : Vec F S32x16 .f32) (ba bb b2 : Vec F S1x1x768 .f32) (ps : Vec F S768x384 .bf16)
    (wa wb w2 : Vec F S1x768x768 .f32) : FVec F S32x768 .f32 :=
  k0_pay15 (BitVec.ofNat 32 (i 0).val) (k0_pay11 xt wa ba ps) (k0_pay12 xt wb bb) (k0_pay13 xt wb bb) (k0_pay14 xt wb bb) ps w2 b2 xr

theorem contrib_of {i : grid0.Coords} {xt xt' : Vec F S32x768 .bf16} {xr xr' : Vec F S32x16 .f32} {ba ba' bb bb' b2 b2' : Vec F S1x1x768 .f32} {ps ps' : Vec F S768x384 .bf16}
    {wa wa' wb wb' w2 w2' : Vec F S1x768x768 .f32} (ht : xt' = xt) (hr : xr' = xr) (ha : ba' = ba) (hb : bb' = bb) (h2 : b2' = b2) (hp : ps' = ps)
    (hwa : wa' = wa) (hwb : wb' = wb) (hw2 : w2' = w2) :
    k0_pay15 (BitVec.ofNat 32 (i 0).val) (k0_pay11 xt' wa' ba' ps') (k0_pay12 xt' wb' bb') (k0_pay13 xt' wb' bb') (k0_pay14 xt' wb' bb') ps' w2' b2' xr'
      = contrib i xt xr ba bb b2 ps wa wb w2 := by
  subst ht hr ha hb h2 hp hwa hwb hw2; rfl

/-- The weights the first step computes: of each token's two best experts, out of the tokens, the scale, the gate and its bias. -/
def routing (x0 : Vec F S32x768 .f32) (x1 : Vec F S1x768 .f32) (x2 : Vec F S16x768 .f32) (x3 : Vec F S1x16 .f32) : FVec F S32x16 .f32 :=
  k0_pay10 (iota .tc S32x16 32 [1] iota_S32x16_d1_w32) (k0_pay6 x0 x1 x2 x3) (k0_pay7 x0 x1 x2 x3) (k0_pay8 x0 x1 x2 x3) (k0_pay9 x0 x1 x2 x3)

theorem routing_of {x0 x0' : Vec F S32x768 .f32} {x1 x1' : Vec F S1x768 .f32} {x2 x2' : Vec F S16x768 .f32} {x3 x3' : Vec F S1x16 .f32} (h0 : x0' = x0) (h1 : x1' = x1) (h2 : x2' = x2) (h3 : x3' = x3) :
    k0_pay10 (iota .tc S32x16 32 [1] iota_S32x16_d1_w32) (k0_pay6 x0' x1' x2' x3') (k0_pay7 x0' x1' x2' x3') (k0_pay8 x0' x1' x2' x3') (k0_pay9 x0' x1' x2' x3') = routing x0 x1 x2 x3 := by
  subst h0 h1 h2 h3; rfl

/-- A load from a slot in which a block has landed reads that block. -/
theorem load_slot1 {r : ℕ} (hr : r ≤ 768) {o : Fin 3 → ℕ} {s : Fin 3} (h : o = ![s.val, r, 0]) (hi) (f : (w1slot hr s).view.ty.Contents (Elt F)) (X : Vec F S1x768x768 .f32) :
    w1M.view.readAt (Elt F) (Rect.unit (s := S3x1536x768) o S1x768x768.size hi).toLoadRect ((w1slot hr s).view.writes (Elt F) f [⟨Rect.whole S1x768x768, X⟩]) = X := by
  subst h; exact View.read_writes_whole (w1slot hr s).view f X
theorem load_slot2 {o : Fin 3 → ℕ} {s : Fin 3} (h : o = ![s.val, 0, 0]) (hi) (f : (w2slot s).view.ty.Contents (Elt F)) (X : Vec F S1x768x768 .f32) :
    w2M.view.readAt (Elt F) (Rect.unit (s := S3x768x768) o S1x768x768.size hi).toLoadRect ((w2slot s).view.writes (Elt F) f [⟨Rect.whole S1x768x768, X⟩]) = X := by
  subst h; exact View.read_writes_whole (w2slot s).view f X

set_option maxHeartbeats 1000000 in
/-- A step from 1 to 13: it starts the copies two blocks ahead, waits for its own, and adds its expert's part. -/
theorem step_mid (c : Dev nD) (t : Fin cfg0.N) (arg1 : Memref sig .tc .vmem S32x768 .f32) (harg1 : arg1.IsWhole) (arg2 : Memref sig .tc .vmem S1x768 .f32) (harg2 : arg2.IsWhole) (arg3 : Memref sig .tc .vmem S16x768 .f32) (harg3 : arg3.IsWhole) (arg4 : Memref sig .tc .vmem S1x16 .f32) (harg4 : arg4.IsWhole) (arg7 : Memref sig .tc .vmem S1x1x768 .f32) (harg7 : arg7.IsWhole) (arg8 : Memref sig .tc .vmem S1x1x768 .f32) (harg8 : arg8.IsWhole) (arg9 : Memref sig .tc .vmem S1x1x768 .f32) (harg9 : arg9.IsWhole) (arg10 : Memref sig .tc .vmem S768x384 .bf16) (harg10 : arg10.IsWhole) (arg11 : Memref sig .tc .vmem S32x768 .f32) (harg11 : arg11.IsWhole) (arg12 : Memref sig .tc .vmem S32x768 .bf16) (harg12 : arg12.IsWhole) (arg13 : Memref sig .tc .vmem S32x16 .f32) (harg13 : arg13.IsWhole)
    (hc1 : ¬isFirst (grid0.coords t)) (hc2 : hasAhead (grid0.coords t)) (hc4 : ¬isFresh (grid0.coords t)) (hc5 : isLater (grid0.coords t))
    (x0 : Vec F S32x768 .f32) (x1 : Vec F S1x768 .f32) (x2 : Vec F S16x768 .f32) (x3 : Vec F S1x16 .f32) (x4 : Vec F S1x1x768 .f32) (x5 : Vec F S1x1x768 .f32) (x6 : Vec F S1x1x768 .f32) (x7 : Vec F S768x384 .bf16) (xo : Vec F S32x768 .f32) (xt : Vec F S32x768 .bf16) (xr : Vec F S32x16 .f32)
    (E1 : Held (F := F) c e1M) (E2 : Held (F := F) c e2M) (qa qb qc : PosShare TreeShare) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xo ∗ owns (c : Thread nD τ) arg12 fullShare xt ∗ owns (c : Thread nD τ) arg13 fullShare xr
            ∗ Ring.inflight (busy1 rowA cell0 qa c E1) (Ring.sl 3 t.val) (Ring.bk 16 t.val) ∗ Ring.inflight (busy1 rowA cell0 qa c E1) (Ring.sl 3 (t.val + 1)) (Ring.bk 16 (t.val + 1)) ∗ Ring.free (cellP (semCell cell0) c) (idle1 rowA qa c E1) (Ring.sl 3 (t.val + 2))
            ∗ Ring.inflight (busy1 rowB cell1 qb c E1) (Ring.sl 3 t.val) (Ring.bk 16 t.val) ∗ Ring.inflight (busy1 rowB cell1 qb c E1) (Ring.sl 3 (t.val + 1)) (Ring.bk 16 (t.val + 1)) ∗ Ring.free (cellP (semCell cell1) c) (idle1 rowB qb c E1) (Ring.sl 3 (t.val + 2))
            ∗ Ring.inflight (busy2 cell2 qc c E2) (Ring.sl 3 t.val) (Ring.bk 16 t.val) ∗ Ring.inflight (busy2 cell2 qc c E2) (Ring.sl 3 (t.val + 1)) (Ring.bk 16 (t.val + 1)) ∗ Ring.free (cellP (semCell cell2) c) (idle2 qc c E2) (Ring.sl 3 (t.val + 2))
            ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare x4 ∗ owns (c : Thread nD τ) arg8 fullShare x5 ∗ owns (c : Thread nD τ) arg9 fullShare x6 ∗ owns (c : Thread nD τ) arg10 fullShare x7
              ∗ owns (c : Thread nD τ) arg11 fullShare (k0_pay2 (contrib (grid0.coords t) xt xr x4 x5 x6 x7 (blk1 rowA c E1 (Ring.bk 16 t.val)) (blk1 rowB c E1 (Ring.bk 16 t.val)) (blk2 c E2 (Ring.bk 16 t.val))) xo)
              ∗ owns (c : Thread nD τ) arg12 fullShare xt ∗ owns (c : Thread nD τ) arg13 fullShare xr
              ∗ Ring.inflight (busy1 rowA cell0 qa c E1) (Ring.sl 3 (t.val + 1)) (Ring.bk 16 (t.val + 1)) ∗ Ring.inflight (busy1 rowA cell0 qa c E1) (Ring.sl 3 (t.val + 2)) (Ring.bk 16 (t.val + 2)) ∗ Ring.free (cellP (semCell cell0) c) (idle1 rowA qa c E1) (Ring.sl 3 t.val)
              ∗ Ring.inflight (busy1 rowB cell1 qb c E1) (Ring.sl 3 (t.val + 1)) (Ring.bk 16 (t.val + 1)) ∗ Ring.inflight (busy1 rowB cell1 qb c E1) (Ring.sl 3 (t.val + 2)) (Ring.bk 16 (t.val + 2)) ∗ Ring.free (cellP (semCell cell1) c) (idle1 rowB qb c E1) (Ring.sl 3 t.val)
              ∗ Ring.inflight (busy2 cell2 qc c E2) (Ring.sl 3 (t.val + 1)) (Ring.bk 16 (t.val + 1)) ∗ Ring.inflight (busy2 cell2 qc c E2) (Ring.sl 3 (t.val + 2)) (Ring.bk 16 (t.val + 2)) ∗ Ring.free (cellP (semCell cell2) c) (idle2 qc c E2) (Ring.sl 3 t.val)
              ∗ (∃ W', owes (c : Thread nD τ) 0 W')) -∗ K ⟨⟩))
          ⊢ wp frame (wpE (defs₀ (F := F)) Variants.none c none) Set.univ (cc0__moe_kernel (grid0.coords t) arg1 harg1 arg2 harg2 arg3 harg3 arg4 harg4 (Memref.whole main_arg4) (Memref.isWhole_whole _) (Memref.whole main_arg6) (Memref.isWhole_whole _) arg7 harg7 arg8 harg8 arg9 harg9 arg10 harg10 arg11 harg11 arg12 harg12 arg13 harg13 w1M (Memref.isWhole_whole _) w2M (Memref.isWhole_whole _) cc0_scratch4) K := by
    intro W K
    haveI : Fact (¬isFirst (grid0.coords t)) := ⟨hc1⟩
    haveI : Fact (hasAhead (grid0.coords t)) := ⟨hc2⟩
    haveI : Fact (¬isFresh (grid0.coords t)) := ⟨hc4⟩
    haveI : Fact (isLater (grid0.coords t)) := ⟨hc5⟩
    simp only [cc0__moe_kernel_eq_skeleton]; unfold cc0__moe_kernel_skel
    simp only [k0_part3_eq_skeleton, k0_part4_eq_skeleton, k0_part5_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%ft, %hft, HT⟩, ⟨%fr, %hfr, HR⟩,
      ⟨%fa0, Fa0, Ra0⟩, ⟨%fa1, Fa1, Ra1⟩, ⟨Ca2, ⟨%fa2, Sa2, Wa2⟩⟩,
      ⟨%fb0, Fb0, Rb0⟩, ⟨%fb1, Fb1, Rb1⟩, ⟨Cb2, ⟨%fb2, Sb2, Wb2⟩⟩,
      ⟨%fc0, Fc0, Rc0⟩, ⟨%fc1, Fc1, Rc1⟩, ⟨Cc2, ⟨%fc2, Sc2, Wc2⟩⟩, HW, Hk⟩
    ihave Pa2 := (part1 rowA qa c E1 (Ring.sl 3 (t.val + 2)) (Ring.bk 16 (t.val + 2))).1 $$ Wa2
    icases Pa2 with ⟨Ia2, Ra2⟩
    ihave Pb2 := (part1 rowB qb c E1 (Ring.sl 3 (t.val + 2)) (Ring.bk 16 (t.val + 2))).1 $$ Wb2
    icases Pb2 with ⟨Ib2, Rb2⟩
    ihave Pc2 := (part2 qc c E2 (Ring.sl 3 (t.val + 2)) (Ring.bk 16 (t.val + 2))).1 $$ Wc2
    icases Pc2 with ⟨Ic2, Rc2⟩
    obtain rfl := harg1.eq_unread hf0; obtain rfl := harg2.eq_unread hf1; obtain rfl := harg3.eq_unread hf2; obtain rfl := harg4.eq_unread hf3; obtain rfl := harg7.eq_unread hf4; obtain rfl := harg8.eq_unread hf5; obtain rfl := harg9.eq_unread hf6; obtain rfl := harg10.eq_unread hf7
    obtain rfl := harg11.eq_unread hfo; obtain rfl := harg12.eq_unread hft; obtain rfl := harg13.eq_unread hfr
    sl_exec (disch := first | sl_exact hc1 | sl_exact hc2 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HO]
    · iexists _; isplitr; swap; · iexact HO
      ipureintro
      refine (View.read_writes_full arg11.view _ inb_S32x768_S32x768_0_0 _ []).trans ?_
      refine congrArg₂ k0_pay2 ?_ ((View.readAt_full _ _ _).trans hfo)
      exact contrib_of ((View.readAt_full _ _ _).trans hft) ((View.readAt_full _ _ _).trans hfr) ((View.readAt_full _ _ _).trans hf4) ((View.readAt_full _ _ _).trans hf5)
        ((View.readAt_full _ _ _).trans hf6) ((View.readAt_full _ _ _).trans hf7) (load_slot1 rowA (off19_at t) _ _ _) (load_slot1 rowB (off20_at t) _ _ _) (load_slot2 (off21_at t) _ _ _)
    isplitl [HT]
    · iexists _; isplitr; · ipureintro; exact harg12.read_unread _
      iexact HT
    isplitl [HR]
    · iexists _; isplitr; · ipureintro; exact harg13.read_unread _
      iexact HR
    isplitl [Fa1 Ra1]
    · iexists fa1; isplitl [Fa1]; · iexact Fa1
      iexact Ra1
    isplitl [Ca2 Ra2]
    · iexists _; isplitl [Ca2]; · iexact Ca2
      iexact Ra2
    isplitl [Fa0 Fa0_dst Fa0_src Ra0]
    · isplitl [Fa0]; · iexact Fa0
      iexists _; isplitl [Fa0_dst]; · iexact Fa0_dst
      iapply (part1 rowA qa c E1 (Ring.sl 3 t.val) (Ring.bk 16 t.val)).2; isplitl [Fa0_src]; · iexact Fa0_src
      iexact Ra0
    isplitl [Fb1 Rb1]
    · iexists fb1; isplitl [Fb1]; · iexact Fb1
      iexact Rb1
    isplitl [Cb2 Rb2]
    · iexists _; isplitl [Cb2]; · iexact Cb2
      iexact Rb2
    isplitl [Fb0 Fb0_dst Fb0_src Rb0]
    · isplitl [Fb0]; · iexact Fb0
      iexists _; isplitl [Fb0_dst]; · iexact Fb0_dst
      iapply (part1 rowB qb c E1 (Ring.sl 3 t.val) (Ring.bk 16 t.val)).2; isplitl [Fb0_src]; · iexact Fb0_src
      iexact Rb0
    isplitl [Fc1 Rc1]
    · iexists fc1; isplitl [Fc1]; · iexact Fc1
      iexact Rc1
    isplitl [Cc2 Rc2]
    · iexists _; isplitl [Cc2]; · iexact Cc2
      iexact Rc2
    isplitl [Fc0 Fc0_dst Fc0_src Rc0]
    · isplitl [Fc0]; · iexact Fc0
      iexists _; isplitl [Fc0_dst]; · iexact Fc0_dst
      iapply (part2 qc c E2 (Ring.sl 3 t.val) (Ring.bk 16 t.val)).2; isplitl [Fc0_src]; · iexact Fc0_src
      iexact Rc0
    iexists _; iexact HW

set_option maxHeartbeats 1000000 in
/-- The last two steps: nothing is left to start. -/
theorem step_last (c : Dev nD) (t : Fin cfg0.N) (arg1 : Memref sig .tc .vmem S32x768 .f32) (harg1 : arg1.IsWhole) (arg2 : Memref sig .tc .vmem S1x768 .f32) (harg2 : arg2.IsWhole) (arg3 : Memref sig .tc .vmem S16x768 .f32) (harg3 : arg3.IsWhole) (arg4 : Memref sig .tc .vmem S1x16 .f32) (harg4 : arg4.IsWhole) (arg7 : Memref sig .tc .vmem S1x1x768 .f32) (harg7 : arg7.IsWhole) (arg8 : Memref sig .tc .vmem S1x1x768 .f32) (harg8 : arg8.IsWhole) (arg9 : Memref sig .tc .vmem S1x1x768 .f32) (harg9 : arg9.IsWhole) (arg10 : Memref sig .tc .vmem S768x384 .bf16) (harg10 : arg10.IsWhole) (arg11 : Memref sig .tc .vmem S32x768 .f32) (harg11 : arg11.IsWhole) (arg12 : Memref sig .tc .vmem S32x768 .bf16) (harg12 : arg12.IsWhole) (arg13 : Memref sig .tc .vmem S32x16 .f32) (harg13 : arg13.IsWhole)
    (hc1 : ¬isFirst (grid0.coords t)) (hc2 : ¬hasAhead (grid0.coords t)) (hc4 : ¬isFresh (grid0.coords t)) (hc5 : isLater (grid0.coords t))
    (x0 : Vec F S32x768 .f32) (x1 : Vec F S1x768 .f32) (x2 : Vec F S16x768 .f32) (x3 : Vec F S1x16 .f32) (x4 : Vec F S1x1x768 .f32) (x5 : Vec F S1x1x768 .f32) (x6 : Vec F S1x1x768 .f32) (x7 : Vec F S768x384 .bf16) (xo : Vec F S32x768 .f32) (xt : Vec F S32x768 .bf16) (xr : Vec F S32x16 .f32)
    (E1 : Held (F := F) c e1M) (E2 : Held (F := F) c e2M) (qa qb qc : PosShare TreeShare) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xo ∗ owns (c : Thread nD τ) arg12 fullShare xt ∗ owns (c : Thread nD τ) arg13 fullShare xr
            ∗ Ring.inflight (busy1 rowA cell0 qa c E1) (Ring.sl 3 t.val) (Ring.bk 16 t.val)
            ∗ Ring.inflight (busy1 rowB cell1 qb c E1) (Ring.sl 3 t.val) (Ring.bk 16 t.val)
            ∗ Ring.inflight (busy2 cell2 qc c E2) (Ring.sl 3 t.val) (Ring.bk 16 t.val)
            ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare x4 ∗ owns (c : Thread nD τ) arg8 fullShare x5 ∗ owns (c : Thread nD τ) arg9 fullShare x6 ∗ owns (c : Thread nD τ) arg10 fullShare x7
              ∗ owns (c : Thread nD τ) arg11 fullShare (k0_pay2 (contrib (grid0.coords t) xt xr x4 x5 x6 x7 (blk1 rowA c E1 (Ring.bk 16 t.val)) (blk1 rowB c E1 (Ring.bk 16 t.val)) (blk2 c E2 (Ring.bk 16 t.val))) xo)
              ∗ owns (c : Thread nD τ) arg12 fullShare xt ∗ owns (c : Thread nD τ) arg13 fullShare xr
              ∗ Ring.free (cellP (semCell cell0) c) (idle1 rowA qa c E1) (Ring.sl 3 t.val)
              ∗ Ring.free (cellP (semCell cell1) c) (idle1 rowB qb c E1) (Ring.sl 3 t.val)
              ∗ Ring.free (cellP (semCell cell2) c) (idle2 qc c E2) (Ring.sl 3 t.val)
              ∗ (∃ W', owes (c : Thread nD τ) 0 W')) -∗ K ⟨⟩))
          ⊢ wp frame (wpE (defs₀ (F := F)) Variants.none c none) Set.univ (cc0__moe_kernel (grid0.coords t) arg1 harg1 arg2 harg2 arg3 harg3 arg4 harg4 (Memref.whole main_arg4) (Memref.isWhole_whole _) (Memref.whole main_arg6) (Memref.isWhole_whole _) arg7 harg7 arg8 harg8 arg9 harg9 arg10 harg10 arg11 harg11 arg12 harg12 arg13 harg13 w1M (Memref.isWhole_whole _) w2M (Memref.isWhole_whole _) cc0_scratch4) K := by
    intro W K
    haveI : Fact (¬isFirst (grid0.coords t)) := ⟨hc1⟩
    haveI : Fact (¬hasAhead (grid0.coords t)) := ⟨hc2⟩
    haveI : Fact (¬isFresh (grid0.coords t)) := ⟨hc4⟩
    haveI : Fact (isLater (grid0.coords t)) := ⟨hc5⟩
    simp only [cc0__moe_kernel_eq_skeleton]; unfold cc0__moe_kernel_skel
    simp only [k0_part3_eq_skeleton, k0_part4_eq_skeleton, k0_part5_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%ft, %hft, HT⟩, ⟨%fr, %hfr, HR⟩,
      ⟨%fa0, Fa0, Ra0⟩,
      ⟨%fb0, Fb0, Rb0⟩,
      ⟨%fc0, Fc0, Rc0⟩, HW, Hk⟩
    obtain rfl := harg1.eq_unread hf0; obtain rfl := harg2.eq_unread hf1; obtain rfl := harg3.eq_unread hf2; obtain rfl := harg4.eq_unread hf3; obtain rfl := harg7.eq_unread hf4; obtain rfl := harg8.eq_unread hf5; obtain rfl := harg9.eq_unread hf6; obtain rfl := harg10.eq_unread hf7
    obtain rfl := harg11.eq_unread hfo; obtain rfl := harg12.eq_unread hft; obtain rfl := harg13.eq_unread hfr
    sl_exec (disch := first | sl_exact hc1 | sl_exact hc2 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HO]
    · iexists _; isplitr; swap; · iexact HO
      ipureintro
      refine (View.read_writes_full arg11.view _ inb_S32x768_S32x768_0_0 _ []).trans ?_
      refine congrArg₂ k0_pay2 ?_ ((View.readAt_full _ _ _).trans hfo)
      exact contrib_of ((View.readAt_full _ _ _).trans hft) ((View.readAt_full _ _ _).trans hfr) ((View.readAt_full _ _ _).trans hf4) ((View.readAt_full _ _ _).trans hf5)
        ((View.readAt_full _ _ _).trans hf6) ((View.readAt_full _ _ _).trans hf7) (load_slot1 rowA (off19_at t) _ _ _) (load_slot1 rowB (off20_at t) _ _ _) (load_slot2 (off21_at t) _ _ _)
    isplitl [HT]
    · iexists _; isplitr; · ipureintro; exact harg12.read_unread _
      iexact HT
    isplitl [HR]
    · iexists _; isplitr; · ipureintro; exact harg13.read_unread _
      iexact HR
    isplitl [Fa0 Fa0_dst Fa0_src Ra0]
    · isplitl [Fa0]; · iexact Fa0
      iexists _; isplitl [Fa0_dst]; · iexact Fa0_dst
      iapply (part1 rowA qa c E1 (Ring.sl 3 t.val) (Ring.bk 16 t.val)).2; isplitl [Fa0_src]; · iexact Fa0_src
      iexact Ra0
    isplitl [Fb0 Fb0_dst Fb0_src Rb0]
    · isplitl [Fb0]; · iexact Fb0
      iexists _; isplitl [Fb0_dst]; · iexact Fb0_dst
      iapply (part1 rowB qb c E1 (Ring.sl 3 t.val) (Ring.bk 16 t.val)).2; isplitl [Fb0_src]; · iexact Fb0_src
      iexact Rb0
    isplitl [Fc0 Fc0_dst Fc0_src Rc0]
    · isplitl [Fc0]; · iexact Fc0
      iexists _; isplitl [Fc0_dst]; · iexact Fc0_dst
      iapply (part2 qc c E2 (Ring.sl 3 t.val) (Ring.bk 16 t.val)).2; isplitl [Fc0_src]; · iexact Fc0_src
      iexact Rc0
    iexists _; iexact HW

set_option maxHeartbeats 1000000 in
/-- The first step: it also starts the copies of the first two blocks, norms the tokens and weighs the experts; its part is added to the tokens. -/
theorem step_first (c : Dev nD) (t : Fin cfg0.N) (arg1 : Memref sig .tc .vmem S32x768 .f32) (harg1 : arg1.IsWhole) (arg2 : Memref sig .tc .vmem S1x768 .f32) (harg2 : arg2.IsWhole) (arg3 : Memref sig .tc .vmem S16x768 .f32) (harg3 : arg3.IsWhole) (arg4 : Memref sig .tc .vmem S1x16 .f32) (harg4 : arg4.IsWhole) (arg7 : Memref sig .tc .vmem S1x1x768 .f32) (harg7 : arg7.IsWhole) (arg8 : Memref sig .tc .vmem S1x1x768 .f32) (harg8 : arg8.IsWhole) (arg9 : Memref sig .tc .vmem S1x1x768 .f32) (harg9 : arg9.IsWhole) (arg10 : Memref sig .tc .vmem S768x384 .bf16) (harg10 : arg10.IsWhole) (arg11 : Memref sig .tc .vmem S32x768 .f32) (harg11 : arg11.IsWhole) (arg12 : Memref sig .tc .vmem S32x768 .bf16) (harg12 : arg12.IsWhole) (arg13 : Memref sig .tc .vmem S32x16 .f32) (harg13 : arg13.IsWhole)
    (h0 : t.val = 0) (hc1 : isFirst (grid0.coords t)) (hc2 : hasAhead (grid0.coords t)) (hc4 : isFresh (grid0.coords t)) (hc5 : ¬isLater (grid0.coords t))
    (x0 : Vec F S32x768 .f32) (x1 : Vec F S1x768 .f32) (x2 : Vec F S16x768 .f32) (x3 : Vec F S1x16 .f32) (x4 : Vec F S1x1x768 .f32) (x5 : Vec F S1x1x768 .f32) (x6 : Vec F S1x1x768 .f32) (x7 : Vec F S768x384 .bf16)
    (E1 : Held (F := F) c e1M) (E2 : Held (F := F) c e2M) (qa qb qc : PosShare TreeShare) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d)
            ∗ Ring.free (cellP (semCell cell0) c) (idle1 rowA qa c E1) (Ring.sl 3 t.val) ∗ Ring.free (cellP (semCell cell0) c) (idle1 rowA qa c E1) (Ring.sl 3 (t.val + 1)) ∗ Ring.free (cellP (semCell cell0) c) (idle1 rowA qa c E1) (Ring.sl 3 (t.val + 2))
            ∗ Ring.free (cellP (semCell cell1) c) (idle1 rowB qb c E1) (Ring.sl 3 t.val) ∗ Ring.free (cellP (semCell cell1) c) (idle1 rowB qb c E1) (Ring.sl 3 (t.val + 1)) ∗ Ring.free (cellP (semCell cell1) c) (idle1 rowB qb c E1) (Ring.sl 3 (t.val + 2))
            ∗ Ring.free (cellP (semCell cell2) c) (idle2 qc c E2) (Ring.sl 3 t.val) ∗ Ring.free (cellP (semCell cell2) c) (idle2 qc c E2) (Ring.sl 3 (t.val + 1)) ∗ Ring.free (cellP (semCell cell2) c) (idle2 qc c E2) (Ring.sl 3 (t.val + 2))
            ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare x4 ∗ owns (c : Thread nD τ) arg8 fullShare x5 ∗ owns (c : Thread nD τ) arg9 fullShare x6 ∗ owns (c : Thread nD τ) arg10 fullShare x7
              ∗ owns (c : Thread nD τ) arg11 fullShare (k0_pay1 (contrib (grid0.coords t) (k0_pay5 x0 x1) (routing x0 x1 x2 x3) x4 x5 x6 x7 (blk1 rowA c E1 (Ring.bk 16 t.val)) (blk1 rowB c E1 (Ring.bk 16 t.val)) (blk2 c E2 (Ring.bk 16 t.val))) x0)
              ∗ owns (c : Thread nD τ) arg12 fullShare (k0_pay5 x0 x1) ∗ owns (c : Thread nD τ) arg13 fullShare (routing x0 x1 x2 x3)
              ∗ Ring.inflight (busy1 rowA cell0 qa c E1) (Ring.sl 3 (t.val + 1)) (Ring.bk 16 (t.val + 1)) ∗ Ring.inflight (busy1 rowA cell0 qa c E1) (Ring.sl 3 (t.val + 2)) (Ring.bk 16 (t.val + 2)) ∗ Ring.free (cellP (semCell cell0) c) (idle1 rowA qa c E1) (Ring.sl 3 t.val)
              ∗ Ring.inflight (busy1 rowB cell1 qb c E1) (Ring.sl 3 (t.val + 1)) (Ring.bk 16 (t.val + 1)) ∗ Ring.inflight (busy1 rowB cell1 qb c E1) (Ring.sl 3 (t.val + 2)) (Ring.bk 16 (t.val + 2)) ∗ Ring.free (cellP (semCell cell1) c) (idle1 rowB qb c E1) (Ring.sl 3 t.val)
              ∗ Ring.inflight (busy2 cell2 qc c E2) (Ring.sl 3 (t.val + 1)) (Ring.bk 16 (t.val + 1)) ∗ Ring.inflight (busy2 cell2 qc c E2) (Ring.sl 3 (t.val + 2)) (Ring.bk 16 (t.val + 2)) ∗ Ring.free (cellP (semCell cell2) c) (idle2 qc c E2) (Ring.sl 3 t.val)
              ∗ (∃ W', owes (c : Thread nD τ) 0 W')) -∗ K ⟨⟩))
          ⊢ wp frame (wpE (defs₀ (F := F)) Variants.none c none) Set.univ (cc0__moe_kernel (grid0.coords t) arg1 harg1 arg2 harg2 arg3 harg3 arg4 harg4 (Memref.whole main_arg4) (Memref.isWhole_whole _) (Memref.whole main_arg6) (Memref.isWhole_whole _) arg7 harg7 arg8 harg8 arg9 harg9 arg10 harg10 arg11 harg11 arg12 harg12 arg13 harg13 w1M (Memref.isWhole_whole _) w2M (Memref.isWhole_whole _) cc0_scratch4) K := by
    intro W K
    haveI : Fact (isFirst (grid0.coords t)) := ⟨hc1⟩
    haveI : Fact (hasAhead (grid0.coords t)) := ⟨hc2⟩
    haveI : Fact (isFresh (grid0.coords t)) := ⟨hc4⟩
    haveI : Fact (¬isLater (grid0.coords t)) := ⟨hc5⟩
    simp only [cc0__moe_kernel_eq_skeleton]; unfold cc0__moe_kernel_skel
    simp only [k0_part1_eq_skeleton, k0_part2_eq_skeleton, k0_part3_eq_skeleton, k0_part4_eq_skeleton, k0_part5_eq_skeleton]
    have hcanon0 := name_w1slot rowA (o := ![0, 0, 0]) (n := t.val) (by rw [h0]; rfl) inb_S3x1536x768_S1x768x768_0_0_0
    have hcanon1 := name_w1slot rowB (o := ![0, 768, 0]) (n := t.val) (by rw [h0]; rfl) inb_S3x1536x768_S1x768x768_0_768_0
    have hcanon2 := name_w1src rowA (o := ![0, 0, 0]) (n := t.val) (by rw [h0]; rfl) inb_S16x1536x768_S1x768x768_0_0_0
    have hcanon3 := name_w1src rowB (o := ![0, 768, 0]) (n := t.val) (by rw [h0]; rfl) inb_S16x1536x768_S1x768x768_0_768_0
    have hcanon4 := name_w2slot (o := ![0, 0, 0]) (n := t.val) (by rw [h0]; rfl) inb_S3x768x768_S1x768x768_0_0_0
    have hcanon5 := name_w2src (o := ![0, 0, 0]) (n := t.val) (by rw [h0]; rfl) inb_S16x768x768_S1x768x768_0_0_0
    have hcanon6 := name_cell cell0 (o := ![0, 0]) (n := t.val) (by rw [h0]; rfl) inb_S3x3_S1x1_0_0
    have hcanon7 := name_cell cell1 (o := ![1, 0]) (n := t.val) (by rw [h0]; rfl) inb_S3x3_S1x1_1_0
    have hcanon8 := name_cell cell2 (o := ![2, 0]) (n := t.val) (by rw [h0]; rfl) inb_S3x3_S1x1_2_0
    have hcanon9 := name_w1slot rowA (o := ![1, 0, 0]) (n := (t.val + 1)) (by rw [h0]; rfl) inb_S3x1536x768_S1x768x768_1_0_0
    have hcanon10 := name_w1slot rowB (o := ![1, 768, 0]) (n := (t.val + 1)) (by rw [h0]; rfl) inb_S3x1536x768_S1x768x768_1_768_0
    have hcanon11 := name_w1src rowA (o := ![1, 0, 0]) (n := (t.val + 1)) (by rw [h0]; rfl) inb_S16x1536x768_S1x768x768_1_0_0
    have hcanon12 := name_w1src rowB (o := ![1, 768, 0]) (n := (t.val + 1)) (by rw [h0]; rfl) inb_S16x1536x768_S1x768x768_1_768_0
    have hcanon13 := name_w2slot (o := ![1, 0, 0]) (n := (t.val + 1)) (by rw [h0]; rfl) inb_S3x768x768_S1x768x768_1_0_0
    have hcanon14 := name_w2src (o := ![1, 0, 0]) (n := (t.val + 1)) (by rw [h0]; rfl) inb_S16x768x768_S1x768x768_1_0_0
    have hcanon15 := name_cell cell0 (o := ![0, 1]) (n := (t.val + 1)) (by rw [h0]; rfl) inb_S3x3_S1x1_0_1
    have hcanon16 := name_cell cell1 (o := ![1, 1]) (n := (t.val + 1)) (by rw [h0]; rfl) inb_S3x3_S1x1_1_1
    have hcanon17 := name_cell cell2 (o := ![2, 1]) (n := (t.val + 1)) (by rw [h0]; rfl) inb_S3x3_S1x1_2_1
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%xo, %fo, -, HO⟩, ⟨%xt, %ft, -, HT⟩, ⟨%xr, %fr, -, HR⟩,
      ⟨Ca0, ⟨%fa0, Sa0, Wa0⟩⟩, ⟨Ca1, ⟨%fa1, Sa1, Wa1⟩⟩, ⟨Ca2, ⟨%fa2, Sa2, Wa2⟩⟩,
      ⟨Cb0, ⟨%fb0, Sb0, Wb0⟩⟩, ⟨Cb1, ⟨%fb1, Sb1, Wb1⟩⟩, ⟨Cb2, ⟨%fb2, Sb2, Wb2⟩⟩,
      ⟨Cc0, ⟨%fc0, Sc0, Wc0⟩⟩, ⟨Cc1, ⟨%fc1, Sc1, Wc1⟩⟩, ⟨Cc2, ⟨%fc2, Sc2, Wc2⟩⟩, HW, Hk⟩
    ihave Pa0 := (part1 rowA qa c E1 (Ring.sl 3 t.val) (Ring.bk 16 t.val)).1 $$ Wa0
    icases Pa0 with ⟨Ia0, Ra0⟩
    ihave Pa1 := (part1 rowA qa c E1 (Ring.sl 3 (t.val + 1)) (Ring.bk 16 (t.val + 1))).1 $$ Wa1
    icases Pa1 with ⟨Ia1, Ra1⟩
    ihave Pa2 := (part1 rowA qa c E1 (Ring.sl 3 (t.val + 2)) (Ring.bk 16 (t.val + 2))).1 $$ Wa2
    icases Pa2 with ⟨Ia2, Ra2⟩
    ihave Pb0 := (part1 rowB qb c E1 (Ring.sl 3 t.val) (Ring.bk 16 t.val)).1 $$ Wb0
    icases Pb0 with ⟨Ib0, Rb0⟩
    ihave Pb1 := (part1 rowB qb c E1 (Ring.sl 3 (t.val + 1)) (Ring.bk 16 (t.val + 1))).1 $$ Wb1
    icases Pb1 with ⟨Ib1, Rb1⟩
    ihave Pb2 := (part1 rowB qb c E1 (Ring.sl 3 (t.val + 2)) (Ring.bk 16 (t.val + 2))).1 $$ Wb2
    icases Pb2 with ⟨Ib2, Rb2⟩
    ihave Pc0 := (part2 qc c E2 (Ring.sl 3 t.val) (Ring.bk 16 t.val)).1 $$ Wc0
    icases Pc0 with ⟨Ic0, Rc0⟩
    ihave Pc1 := (part2 qc c E2 (Ring.sl 3 (t.val + 1)) (Ring.bk 16 (t.val + 1))).1 $$ Wc1
    icases Pc1 with ⟨Ic1, Rc1⟩
    ihave Pc2 := (part2 qc c E2 (Ring.sl 3 (t.val + 2)) (Ring.bk 16 (t.val + 2))).1 $$ Wc2
    icases Pc2 with ⟨Ic2, Rc2⟩
    obtain rfl := harg1.eq_unread hf0; obtain rfl := harg2.eq_unread hf1; obtain rfl := harg3.eq_unread hf2; obtain rfl := harg4.eq_unread hf3; obtain rfl := harg7.eq_unread hf4; obtain rfl := harg8.eq_unread hf5; obtain rfl := harg9.eq_unread hf6; obtain rfl := harg10.eq_unread hf7
    sl_exec (disch := first | sl_exact hc1 | sl_exact hc2 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    have htok : k0_pay5 (View.readAt (Elt F) arg1.view (Rect.unit (s := S32x768) ![0, 0] S32x768.size inb_S32x768_S32x768_0_0).toLoadRect (harg1.unread x0)) (View.readAt (Elt F) arg2.view (Rect.unit (s := S1x768) ![0, 0] S1x768.size inb_S1x768_S1x768_0_0).toLoadRect (harg2.unread x1)) = k0_pay5 x0 x1 :=
      congrArg₂ k0_pay5 ((View.readAt_full _ _ _).trans hf0) ((View.readAt_full _ _ _).trans hf1)
    have hrout := routing_of (F := F) ((View.readAt_full arg1.view (harg1.unread x0) inb_S32x768_S32x768_0_0).trans hf0) ((View.readAt_full arg2.view (harg2.unread x1) inb_S1x768_S1x768_0_0).trans hf1) ((View.readAt_full arg3.view (harg3.unread x2) inb_S16x768_S16x768_0_0).trans hf2) ((View.readAt_full arg4.view (harg4.unread x3) inb_S1x16_S1x16_0_0).trans hf3)
    isplitl [HO]
    · iexists _; isplitr; swap; · iexact HO
      ipureintro
      refine (View.read_writes_full arg11.view _ inb_S32x768_S32x768_0_0 _ []).trans ?_
      refine congrArg₂ k0_pay1 ?_ ((View.readAt_full _ _ _).trans hf0)
      exact contrib_of ((View.readAt_writes_full _ _ _ _ _ []).trans htok) ((View.readAt_writes_full _ _ _ _ _ []).trans hrout) ((View.readAt_full _ _ _).trans hf4) ((View.readAt_full _ _ _).trans hf5)
        ((View.readAt_full _ _ _).trans hf6) ((View.readAt_full _ _ _).trans hf7) (load_slot1 rowA (off19_at t) _ _ _) (load_slot1 rowB (off20_at t) _ _ _) (load_slot2 (off21_at t) _ _ _)
    isplitl [HT]
    · iexists _; isplitr; swap; · iexact HT
      ipureintro; exact (View.read_writes_full arg12.view _ inb_S32x768_S32x768_0_0 _ []).trans htok
    isplitl [HR]
    · iexists _; isplitr; swap; · iexact HR
      ipureintro; exact (View.read_writes_full arg13.view _ inb_S32x16_S32x16_0_0 _ []).trans hrout
    isplitl [Ca1 Ra1]
    · iexists _; isplitl [Ca1]; · iexact Ca1
      iexact Ra1
    isplitl [Ca2 Ra2]
    · iexists _; isplitl [Ca2]; · iexact Ca2
      iexact Ra2
    isplitl [Ca0 Sa0 Ia0 Ra0]
    · isplitl [Ca0]; · iexact Ca0
      iexists _; isplitl [Sa0]; · iexact Sa0
      iapply (part1 rowA qa c E1 (Ring.sl 3 t.val) (Ring.bk 16 t.val)).2; isplitl [Ia0]; · iexact Ia0
      iexact Ra0
    isplitl [Cb1 Rb1]
    · iexists _; isplitl [Cb1]; · iexact Cb1
      iexact Rb1
    isplitl [Cb2 Rb2]
    · iexists _; isplitl [Cb2]; · iexact Cb2
      iexact Rb2
    isplitl [Cb0 Sb0 Ib0 Rb0]
    · isplitl [Cb0]; · iexact Cb0
      iexists _; isplitl [Sb0]; · iexact Sb0
      iapply (part1 rowB qb c E1 (Ring.sl 3 t.val) (Ring.bk 16 t.val)).2; isplitl [Ib0]; · iexact Ib0
      iexact Rb0
    isplitl [Cc1 Rc1]
    · iexists _; isplitl [Cc1]; · iexact Cc1
      iexact Rc1
    isplitl [Cc2 Rc2]
    · iexists _; isplitl [Cc2]; · iexact Cc2
      iexact Rc2
    isplitl [Cc0 Sc0 Ic0 Rc0]
    · isplitl [Cc0]; · iexact Cc0
      iexists _; isplitl [Sc0]; · iexact Sc0
      iapply (part2 qc c E2 (Ring.sl 3 t.val) (Ring.bk 16 t.val)).2; isplitl [Ic0]; · iexact Ic0
      iexact Rc0
    iexists _; iexact HW

end Cert.KernelIdeal.Hand

end
-- ==== Proof.Hand.LaunchI.lean ====
/- The kernel's launch: what its buffers hold before each step, the step put in, and what the run leaves. -/
module

public import proofs.«01_k».proof.Proof.Hand.StepI
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## One step of a stream -/

section Turn
variable {M : Type _} [URA M] {C : Fin 3 → Type _} (cell : Fin 3 → sProp M) (idle : (s : Fin 3) → C s → sProp M) (busy : (s : Fin 3) → Fin 16 → C s → sProp M)

theorem open_first (n : ℕ) (h : n = 0) : Ring.At₀ cell idle (fun _ : Fin 16 => (iprop(emp) : sProp M))
    ⊢ iprop(Ring.free cell idle (Ring.sl 3 n) ∗ Ring.free cell idle (Ring.sl 3 (n + 1)) ∗ Ring.free cell idle (Ring.sl 3 (n + 2))) := by
  rw [Ring.At₀_eq3' _ _ _ n h (by decide : 3 ≤ 16)]; iintro ⟨-, H⟩; iexact H
theorem close_first (n : ℕ) (h : n = 0) : iprop(Ring.inflight busy (Ring.sl 3 (n + 1)) (Ring.bk 16 (n + 1)) ∗ Ring.inflight busy (Ring.sl 3 (n + 2)) (Ring.bk 16 (n + 2)) ∗ Ring.free cell idle (Ring.sl 3 n))
    ⊢ Ring.At 2 cell idle (fun _ : Fin 16 => (iprop(emp) : sProp M)) busy (n + 1) := by
  rw [Ring.At3_one' _ _ _ _ n h (by decide : 3 ≤ 16)]
  exact Ring.with_homes (H := (iprop(emp) : sProp M)) (Entails.refl _)
theorem open_mid (n : ℕ) (h : n + 2 < 16) : Ring.At 2 cell idle (fun _ : Fin 16 => (iprop(emp) : sProp M)) busy n
    ⊢ iprop(Ring.inflight busy (Ring.sl 3 n) (Ring.bk 16 n) ∗ Ring.inflight busy (Ring.sl 3 (n + 1)) (Ring.bk 16 (n + 1)) ∗ Ring.free cell idle (Ring.sl 3 (n + 2))) := by
  rw [Ring.At3_here _ _ _ _ n h]; iintro ⟨-, H⟩; iexact H
theorem close_mid (n : ℕ) (h : n + 2 < 16) : iprop(Ring.inflight busy (Ring.sl 3 (n + 1)) (Ring.bk 16 (n + 1)) ∗ Ring.inflight busy (Ring.sl 3 (n + 2)) (Ring.bk 16 (n + 2)) ∗ Ring.free cell idle (Ring.sl 3 n))
    ⊢ Ring.At 2 cell idle (fun _ : Fin 16 => (iprop(emp) : sProp M)) busy (n + 1) := by
  rw [Ring.At3_next _ _ _ _ n h, Ring.slotAt3_next0 _ _ _ n (by omega), Ring.slotAt3_next1 _ _ _ n h]
  exact Ring.with_homes (H := (iprop(emp) : sProp M)) (Entails.refl _)
theorem open_last (n : ℕ) (h : 16 ≤ n + 2) (h' : n < 16) : Ring.At 2 cell idle (fun _ : Fin 16 => (iprop(emp) : sProp M)) busy n
    ⊢ iprop(Ring.inflight busy (Ring.sl 3 n) (Ring.bk 16 n) ∗ Ring.slotAt 2 cell idle busy n 1 ∗ Ring.free cell idle (Ring.sl 3 (n + 2))) := by
  rw [Ring.At3_here_tail _ _ _ _ n h']; iintro ⟨-, H⟩; iexact H
theorem close_last (n : ℕ) (h : 16 ≤ n + 2) (h' : n < 16) : iprop(Ring.slotAt 2 cell idle busy n 1 ∗ Ring.free cell idle (Ring.sl 3 (n + 2)) ∗ Ring.free cell idle (Ring.sl 3 n))
    ⊢ Ring.At 2 cell idle (fun _ : Fin 16 => (iprop(emp) : sProp M)) busy (n + 1) := by
  rw [Ring.At3_next_tail _ _ _ _ n h h', Ring.slotAt3_tail_role _ _ _ n]
  exact Ring.with_homes (H := (iprop(emp) : sProp M)) (Entails.refl _)
end Turn

variable (m : (ℓ : Loc nD τ sig) → Buf (Elt F) ℓ) (ρ : Dev nD → PrngReg)

/-! ## What the buffers hold -/

/-- The point of a step, and the first. -/
def pt (n : ℕ) : Fin cfg0.N := ⟨min n 15, by rw [show cfg0.N = 16 from N_0]; omega⟩
theorem pt_val (t : Fin cfg0.N) : pt t.val = t := by
  have := lt_of_lt_of_eq t.isLt (show cfg0.N = 16 from N_0)
  exact Fin.ext (by simp only [pt]; omega)

/-- The normed tokens and the experts' weights, as the first step leaves them. -/
def tokens (c : Dev nD) : FVec F S32x768 .bf16 := k0_pay5 (iblk m c 0 (pt 0)) (iblk m c 1 (pt 0))
def weights (c : Dev nD) : FVec F S32x16 .f32 := routing (iblk m c 0 (pt 0)) (iblk m c 1 (pt 0)) (iblk m c 2 (pt 0)) (iblk m c 3 (pt 0))
/-- The part of the expert of point `t`, -/
def partOf (c : Dev nD) (t : Fin cfg0.N) : FVec F S32x768 .f32 :=
  contrib (grid0.coords t) (tokens m c) (weights m c) (iblk m c 4 t) (iblk m c 5 t) (iblk m c 6 t) (iblk m c 7 t)
    (blk1 rowA c (V m c main_arg4) (Ring.bk 16 t.val)) (blk1 rowB c (V m c main_arg4) (Ring.bk 16 t.val)) (blk2 c (V m c main_arg6) (Ring.bk 16 t.val))
/-- and the result after it. -/
def total (c : Dev nD) : ℕ → FVec F S32x768 .f32
  | 0 => k0_pay1 (partOf m c (pt 0)) (iblk m c 0 (pt 0))
  | n + 1 => k0_pay2 (partOf m c (pt (n + 1))) (total c n)

/-- The two small scratch buffers before step `k`. -/
def kept (c : Dev nD) (k : ℕ) : sProp 𝕄 :=
  if k = 0 then iprop((∃ d, owns (c : Thread nD τ) tM fullShare d) ∗ (∃ d, owns (c : Thread nD τ) rM fullShare d))
  else iprop(owns (c : Thread nD τ) tM fullShare (tokens m c) ∗ owns (c : Thread nD τ) rM fullShare (weights m c))

/-- What holds between the steps: the small scratch, the generator's register, and the three streams. -/
def between (c : Dev nD) (k : ℕ) : sProp 𝕄 :=
  iprop(kept m c k ∗ (∃ r, prngReg c r) ∗ stream1 rowA cell0 fullShare.left c (V m c main_arg4) k
    ∗ stream1 rowB cell1 fullShare.right c (V m c main_arg4) k ∗ stream2 cell2 fullShare c (V m c main_arg6) k)

/-- The data of the launch's proof: the inputs' buffers stay at their blocks, the result's holds the total so far. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => total m c t.val
  Φ t := between m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = total m c t.val := by dsimp only [dats]
theorem Phi_here (c : Dev nD) (t : Fin cfg0.N) : (dats m 0 c).Φ t.castSucc = between m c t.val := by dsimp only [dats]; simp only [Fin.coe_castSucc]
theorem Phi_next (c : Dev nD) (t : Fin cfg0.N) : (dats m 0 c).Φ t.succ = between m c (t.val + 1) := by dsimp only [dats]; simp only [Fin.val_succ]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]) t d).trans (by unfold Dat.fetched Dat.blockOf iblk; rw [A_eq]; rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]) t d).trans (by unfold Dat.fetched Dat.blockOf iblk; rw [A_eq]; rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]) t d).trans (by unfold Dat.fetched Dat.blockOf iblk; rw [A_eq]; rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]) t d).trans (by unfold Dat.fetched Dat.blockOf iblk; rw [A_eq]; rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]) t d).trans (by unfold Dat.fetched Dat.blockOf iblk; rw [A_eq]; rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]) t d).trans (by unfold Dat.fetched Dat.blockOf iblk; rw [A_eq]; rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]) t d).trans (by unfold Dat.fetched Dat.blockOf iblk; rw [A_eq]; rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]) t d).trans (by unfold Dat.fetched Dat.blockOf iblk; rw [A_eq]; rfl)
/-- Every step writes the result. -/
theorem live8 : ∀ i, cfg0.idle 8 i = false := by decide +kernel
theorem before8 (c : Dev nD) (t : Fin cfg0.N) (ht : t.val ≠ 0) (d) : (dats m 0 c).before 8 t d = total m c (t.val - 1) := by
  have hN : t.val < 16 := lt_of_lt_of_eq t.isLt (show cfg0.N = 16 from N_0)
  refine ((dats m 0 c).before_out_kept 8 rfl t ht ?_ live8 (fun _ _ => rfl) d).trans (after8 m c _)
  rw [Bool.eq_false_iff]; intro h; have := (flush0_8 _).mp h; dsimp only at this; omega

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 3600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [after0, after1, after2, after3, after4, after5, after6, after7, after8]
  rw [Phi_here m c t, Phi_next m c t]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  unfold between kept stream1 stream2
  by_cases h0 : t.val = 0
  · have ht : t = pt 0 := by rw [← pt_val t, h0]
    have e8 : total m c t.val = k0_pay1 (contrib (grid0.coords t) (k0_pay5 (iblk m c 0 t) (iblk m c 1 t)) (routing (iblk m c 0 t) (iblk m c 1 t) (iblk m c 2 t) (iblk m c 3 t)) (iblk m c 4 t) (iblk m c 5 t) (iblk m c 6 t) (iblk m c 7 t)
        (blk1 rowA c (V m c main_arg4) (Ring.bk 16 t.val)) (blk1 rowB c (V m c main_arg4) (Ring.bk 16 t.val)) (blk2 c (V m c main_arg6) (Ring.bk 16 t.val))) (iblk m c 0 t) := by
      rw [h0]; subst ht; rfl
    have eT : tokens m c = k0_pay5 (iblk m c 0 t) (iblk m c 1 t) := by subst ht; rfl
    have eR : weights m c = routing (iblk m c 0 t) (iblk m c 1 t) (iblk m c 2 t) (iblk m c 3 t) := by subst ht; rfl
    rw [e8, eT, eR]
    simp only [if_pos h0, if_neg (Nat.succ_ne_zero t.val)]
    iintro ⟨⟨⟨HT, HR⟩, Hg, SA, SB, SC⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave PA := (open_first _ _ t.val h0) $$ SA
    icases PA with ⟨A0, A1, A2⟩
    ihave PB := (open_first _ _ t.val h0) $$ SB
    icases PB with ⟨B0, B1, B2⟩
    ihave PC := (open_first _ _ t.val h0) $$ SC
    icases PC with ⟨C0, C1, C2⟩
    iapply (step_first c t _ _ _ _ _ _ _ _ _ _ _ _ _ _ _ _ _ _ _ _ _ _ h0 ((isFirst_iff t).mpr h0) ((hasAhead_iff t).mpr (by omega)) ((isFresh_iff t).mpr h0) (fun h => (isLater_iff t).mp h h0) (iblk m c 0 t) (iblk m c 1 t) (iblk m c 2 t) (iblk m c 3 t) (iblk m c 4 t) (iblk m c 5 t) (iblk m c 6 t) (iblk m c 7 t) (V m c main_arg4) (V m c main_arg6) fullShare.left fullShare.right fullShare W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HT]; · iexact HT
    isplitl [HR]; · iexact HR
    isplitl [A0]; · iexact A0
    isplitl [A1]; · iexact A1
    isplitl [A2]; · iexact A2
    isplitl [B0]; · iexact B0
    isplitl [B1]; · iexact B1
    isplitl [B2]; · iexact B2
    isplitl [C0]; · iexact C0
    isplitl [C1]; · iexact C1
    isplitl [C2]; · iexact C2
    isplitl [HW]; · iexact HW
    iintro ⟨H0, H1, H2, H3, H4, H5, H6, H7, H8, HT, HR, A0, A1, A2, B0, B1, B2, C0, C1, C2, ⟨%W', HW'⟩⟩
    isplitl [HT HR Hg A0 A1 A2 B0 B1 B2 C0 C1 C2]
    · isplitl [HT HR]
      · isplitl [HT]; · iexact HT
        iexact HR
      isplitl [Hg]; · iexact Hg
      isplitl [A0 A1 A2]
      · iapply (close_first _ _ _ t.val h0)
        isplitl [A0]; · iexact A0
        isplitl [A1]; · iexact A1
        iexact A2
      isplitl [B0 B1 B2]
      · iapply (close_first _ _ _ t.val h0)
        isplitl [B0]; · iexact B0
        isplitl [B1]; · iexact B1
        iexact B2
      iapply (close_first _ _ _ t.val h0)
      isplitl [C0]; · iexact C0
      isplitl [C1]; · iexact C1
      iexact C2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have e8 : total m c t.val = k0_pay2 (contrib (grid0.coords t) (tokens m c) (weights m c) (iblk m c 4 t) (iblk m c 5 t) (iblk m c 6 t) (iblk m c 7 t)
        (blk1 rowA c (V m c main_arg4) (Ring.bk 16 t.val)) (blk1 rowB c (V m c main_arg4) (Ring.bk 16 t.val)) (blk2 c (V m c main_arg6) (Ring.bk 16 t.val))) (total m c (t.val - 1)) := by
      obtain ⟨k, hk⟩ := Nat.exists_eq_succ_of_ne_zero h0
      have hp := pt_val t
      rw [hk] at hp
      rw [hk, total, Nat.succ_sub_one, hp]; unfold partOf; rw [hk]
    rw [e8]
    simp only [before8 m c t h0, if_neg h0, if_neg (Nat.succ_ne_zero t.val)]
    by_cases h1 : t.val < 14
    · iintro ⟨⟨⟨HT, HR⟩, Hg, SA, SB, SC⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave PA := (open_mid _ _ _ t.val (by omega)) $$ SA
      icases PA with ⟨A0, A1, A2⟩
      ihave PB := (open_mid _ _ _ t.val (by omega)) $$ SB
      icases PB with ⟨B0, B1, B2⟩
      ihave PC := (open_mid _ _ _ t.val (by omega)) $$ SC
      icases PC with ⟨C0, C1, C2⟩
      iapply (step_mid c t _ _ _ _ _ _ _ _ _ _ _ _ _ _ _ _ _ _ _ _ _ _ (fun h => h0 ((isFirst_iff t).mp h)) ((hasAhead_iff t).mpr h1) (fun h => h0 ((isFresh_iff t).mp h)) ((isLater_iff t).mpr h0) (iblk m c 0 t) (iblk m c 1 t) (iblk m c 2 t) (iblk m c 3 t) (iblk m c 4 t) (iblk m c 5 t) (iblk m c 6 t) (iblk m c 7 t) (total m c (t.val - 1)) (tokens m c) (weights m c) (V m c main_arg4) (V m c main_arg6) fullShare.left fullShare.right fullShare W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HT]; · iexact HT
      isplitl [HR]; · iexact HR
      isplitl [A0]; · iexact A0
      isplitl [A1]; · iexact A1
      isplitl [A2]; · iexact A2
      isplitl [B0]; · iexact B0
      isplitl [B1]; · iexact B1
      isplitl [B2]; · iexact B2
      isplitl [C0]; · iexact C0
      isplitl [C1]; · iexact C1
      isplitl [C2]; · iexact C2
      isplitl [HW]; · iexact HW
      iintro ⟨H0, H1, H2, H3, H4, H5, H6, H7, H8, HT, HR, A0, A1, A2, B0, B1, B2, C0, C1, C2, ⟨%W', HW'⟩⟩
      isplitl [HT HR Hg A0 A1 A2 B0 B1 B2 C0 C1 C2]
      · isplitl [HT HR]
        · isplitl [HT]; · iexact HT
          iexact HR
        isplitl [Hg]; · iexact Hg
        isplitl [A0 A1 A2]
        · iapply (close_mid _ _ _ t.val (by omega))
          isplitl [A0]; · iexact A0
          isplitl [A1]; · iexact A1
          iexact A2
        isplitl [B0 B1 B2]
        · iapply (close_mid _ _ _ t.val (by omega))
          isplitl [B0]; · iexact B0
          isplitl [B1]; · iexact B1
          iexact B2
        iapply (close_mid _ _ _ t.val (by omega))
        isplitl [C0]; · iexact C0
        isplitl [C1]; · iexact C1
        iexact C2
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro ⟨⟨⟨HT, HR⟩, Hg, SA, SB, SC⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave PA := (open_last _ _ _ t.val (by omega) hN) $$ SA
      icases PA with ⟨A0, A1, A2⟩
      ihave PB := (open_last _ _ _ t.val (by omega) hN) $$ SB
      icases PB with ⟨B0, B1, B2⟩
      ihave PC := (open_last _ _ _ t.val (by omega) hN) $$ SC
      icases PC with ⟨C0, C1, C2⟩
      iapply (step_last c t _ _ _ _ _ _ _ _ _ _ _ _ _ _ _ _ _ _ _ _ _ _ (fun h => h0 ((isFirst_iff t).mp h)) (fun h => h1 ((hasAhead_iff t).mp h)) (fun h => h0 ((isFresh_iff t).mp h)) ((isLater_iff t).mpr h0) (iblk m c 0 t) (iblk m c 1 t) (iblk m c 2 t) (iblk m c 3 t) (iblk m c 4 t) (iblk m c 5 t) (iblk m c 6 t) (iblk m c 7 t) (total m c (t.val - 1)) (tokens m c) (weights m c) (V m c main_arg4) (V m c main_arg6) fullShare.left fullShare.right fullShare W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HT]; · iexact HT
      isplitl [HR]; · iexact HR
      isplitl [A0]; · iexact A0
      isplitl [B0]; · iexact B0
      isplitl [C0]; · iexact C0
      isplitl [HW]; · iexact HW
      iintro ⟨H0, H1, H2, H3, H4, H5, H6, H7, H8, HT, HR, A0, B0, C0, ⟨%W', HW'⟩⟩
      isplitl [HT HR Hg A0 A1 A2 B0 B1 B2 C0 C1 C2]
      · isplitl [HT HR]
        · isplitl [HT]; · iexact HT
          iexact HR
        isplitl [Hg]; · iexact Hg
        isplitl [A0 A1 A2]
        · iapply (close_last _ _ _ t.val (by omega) hN)
          isplitl [A1]; · iexact A1
          isplitl [A2]; · iexact A2
          iexact A0
        isplitl [B0 B1 B2]
        · iapply (close_last _ _ _ t.val (by omega) hN)
          isplitl [B1]; · iexact B1
          isplitl [B2]; · iexact B2
          iexact B0
        iapply (close_last _ _ _ t.val (by omega) hN)
        isplitl [C1]; · iexact C1
        isplitl [C2]; · iexact C2
        iexact C0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row, live8]
  exact triple_restated (sound_body m c t) rfl .rfl fun _ => .rfl

/-! ## Into the launch and out of it -/

abbrev osem0 : Fin 9 → SemLoc sig := ![SemLoc.dma 12, SemLoc.dma 13, SemLoc.dma 14, SemLoc.dma 15, SemLoc.dma 16, SemLoc.dma 17, SemLoc.dma 18, SemLoc.dma 19, SemLoc.dma 20]
theorem ownSemFacts0 : Pipeline.OwnSemFacts spec0 osem0 := by decide
theorem cellA : ∀ s : Fin 3, SemLoc.dma (semCell cell0 s).sem = osem0 ⟨s.val, by omega⟩ := by decide
theorem cellB : ∀ s : Fin 3, SemLoc.dma (semCell cell1 s).sem = osem0 ⟨3 + s.val, by omega⟩ := by decide
theorem cellC : ∀ s : Fin 3, SemLoc.dma (semCell cell2 s).sem = osem0 ⟨6 + s.val, by omega⟩ := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP (semCell cell0) c 0 ∗ cellP (semCell cell0) c 1 ∗ cellP (semCell cell0) c 2 ∗ cellP (semCell cell1) c 0 ∗ cellP (semCell cell1) c 1 ∗ cellP (semCell cell1) c 2
          ∗ cellP (semCell cell2) c 0 ∗ cellP (semCell cell2) c 1 ∗ cellP (semCell cell2) c 2) := by
  rw [Pipeline.ownSems0_eq_of_list c osem0 [0, 1, 2, 3, 4, 5, 6, 7, 8] (by decide) (by decide)]
  unfold cellP; simp only [cellA, cellB, cellC]; rfl
def H0 : Finset (Ref sig .tc) := {main_arg4, main_arg6}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_arg4) ↦[Finset.univ]{fullShare} V m c main_arg4) ∗ (((c : Thread nD τ).loc main_arg6) ↦[Finset.univ]{fullShare} V m c main_arg6)) := by
  rw [BI.bigSep_eq_bigSepL_of_eq [main_arg4, main_arg6] (by decide) (by decide)]; rfl
theorem PhiD0_eq (c : Dev nD) :
    (Pipeline.ΦD osem0 spec0 H0 (V m) c : sProp 𝕄)
      = iprop(iprop((∃ d, owns (c : Thread nD τ) tM fullShare d) ∗ (∃ d, owns (c : Thread nD τ) rM fullShare d) ∗ (∃ d, owns (c : Thread nD τ) w1M fullShare d) ∗ (∃ d, owns (c : Thread nD τ) w2M fullShare d)) ∗ (∃ r, prngReg c r)
          ∗ iprop(cellP (semCell cell0) c 0 ∗ cellP (semCell cell0) c 1 ∗ cellP (semCell cell0) c 2 ∗ cellP (semCell cell1) c 0 ∗ cellP (semCell cell1) c 1 ∗ cellP (semCell cell1) c 2
          ∗ cellP (semCell cell2) c 0 ∗ cellP (semCell cell2) c 1 ∗ cellP (semCell cell2) c 2)
          ∗ iprop((((c : Thread nD τ).loc main_arg4) ↦[Finset.univ]{fullShare} V m c main_arg4) ∗ (((c : Thread nD τ).loc main_arg6) ↦[Finset.univ]{fullShare} V m c main_arg6))) := by
  rw [Pipeline.ΦD_eq, scopedRest0_eq, ownSems00_eq, hbmPts0_eq]; simp only [tM, rM, w1M, w2M, owns_whole]; try rfl

theorem hin (c : Dev nD) : Pipeline.ΦD osem0 spec0 H0 (V m) c ⊢ (dats m 0 c).Φ 0 := by
  rw [PhiD0_eq, show (dats m 0 c).Φ 0 = between m c 0 from rfl]
  unfold between kept
  rw [if_pos rfl]
  iintro ⟨⟨HT, HR, W1, W2⟩, Hg, ⟨A0, A1, A2, B0, B1, B2, C0, C1, C2⟩, ⟨E1, E2⟩⟩
  ihave S1 := (slots1_in (F := F) c) $$ W1
  icases S1 with ⟨SA, SB⟩
  ihave SC := (slots2_in (F := F) c) $$ W2
  ihave E' := (pointsTo_share (PosShare.mem_left_op_right fullShare)).1 $$ E1
  icases E' with ⟨EA, EB⟩
  ihave EA' := (thirds fullShare.left c main_arg4 (V m c main_arg4)).1 $$ EA
  ihave EB' := (thirds fullShare.right c main_arg4 (V m c main_arg4)).1 $$ EB
  ihave EC' := (thirds fullShare c main_arg6 (V m c main_arg6)).1 $$ E2
  isplitl [HT HR]
  · isplitl [HT]; · iexact HT
    iexact HR
  isplitl [Hg]; · iexact Hg
  isplitl [SA A0 A1 A2 EA']
  · iapply (stream1_in rowA cell0 fullShare.left c (V m c main_arg4))
    isplitl [SA]; · iexact SA
    isplitl [A0 A1 A2]
    · isplitl [A0]; · iexact A0
      isplitl [A1]; · iexact A1
      iexact A2
    iexact EA'
  isplitl [SB B0 B1 B2 EB']
  · iapply (stream1_in rowB cell1 fullShare.right c (V m c main_arg4))
    isplitl [SB]; · iexact SB
    isplitl [B0 B1 B2]
    · isplitl [B0]; · iexact B0
      isplitl [B1]; · iexact B1
      iexact B2
    iexact EB'
  iapply (stream2_in cell2 fullShare c (V m c main_arg6))
  isplitl [SC]; · iexact SC
  isplitl [C0 C1 C2]
  · isplitl [C0]; · iexact C0
    isplitl [C1]; · iexact C1
    iexact C2
  iexact EC'

theorem hout (c : Dev nD) : (dats m 0 c).Φ (Fin.last cfg0.N) ⊢ Pipeline.ΦD osem0 spec0 H0 (V m) c := by
  rw [PhiD0_eq, show (dats m 0 c).Φ (Fin.last cfg0.N) = between m c grid0.N from rfl, show grid0.N = 16 by rw [N_0]]
  unfold between kept
  rw [if_neg (by decide)]
  iintro ⟨⟨HT, HR⟩, Hg, SA, SB, SC⟩
  ihave SA' := (stream1_out rowA cell0 fullShare.left c (V m c main_arg4)) $$ SA
  icases SA' with ⟨SA, ⟨A0, A1, A2⟩, EA⟩
  ihave SB' := (stream1_out rowB cell1 fullShare.right c (V m c main_arg4)) $$ SB
  icases SB' with ⟨SB, ⟨B0, B1, B2⟩, EB⟩
  ihave SC' := (stream2_out cell2 fullShare c (V m c main_arg6)) $$ SC
  icases SC' with ⟨SC, ⟨C0, C1, C2⟩, EC⟩
  isplitl [HT HR SA SB SC]
  · isplitl [HT]; · iexists _; iexact HT
    isplitl [HR]; · iexists _; iexact HR
    isplitl [SA SB]
    · iapply (slots1_out (F := F) c)
      isplitl [SA]; · iexact SA
      iexact SB
    iapply (slots2_out (F := F) c); iexact SC
  isplitl [Hg]; · iexact Hg
  isplitl [A0 A1 A2 B0 B1 B2 C0 C1 C2]
  · isplitl [A0]; · iexact A0
    isplitl [A1]; · iexact A1
    isplitl [A2]; · iexact A2
    isplitl [B0]; · iexact B0
    isplitl [B1]; · iexact B1
    isplitl [B2]; · iexact B2
    isplitl [C0]; · iexact C0
    isplitl [C1]; · iexact C1
    iexact C2
  isplitl [EA EB]
  · iapply (pointsTo_share (PosShare.mem_left_op_right fullShare)).2
    isplitl [EA]
    · iapply (thirds fullShare.left c main_arg4 (V m c main_arg4)).2; iexact EA
    iapply (thirds fullShare.right c main_arg4 (V m c main_arg4)).2; iexact EB
  iapply (thirds fullShare c main_arg6 (V m c main_arg6)).2; iexact EC

/-! ## The run -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends, with each window's array at what the launch's proof names and every counter at zero. -/
theorem run : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m) (hin := hin m) (hout := hout m)
    (hQ' := fun _ h => h)

/-- The result's array at the end. -/
theorem result_eq (c : Dev nD) : (dats m 0 c).arrAt 8 cfg0.N = total m c 15 :=
  (dats m 0 c).arrAt_eq_of_after_last 8 (pt 15) (by decide +kernel) _ fun j => by
    rw [after8]; rfl

/-- Every run ends with the result at the total over all experts, the arguments as they were and every counter at zero. -/
theorem run_total : θ_run defs (onTc (τ := τ) (main (F := F))) ⟨m, fun _ => 0, ρ⟩ (fun r => (∀ c : Dev nD,
      r.2.mem ((c.tc : Thread nD τ).loc main_v13) = total m c 15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs _ _).mono (fun r h => ⟨fun c => ?_, h.2⟩) (run m ρ)
  have rest (b : Ref sig .tc) (h1 : b.isScoped = false) (h2 : ∀ w, (spec0 w).arr.view.ref ≠ b) := (h.1 c).2 b (Pipeline.mem_restRefs_of b h1 h2)
  exact ⟨((h.1 c).1 8).trans (result_eq m c),
    ((h.1 c).1 0).trans (((dats m 0 c).arrAt_in 0 rfl _).trans ((A_eq m c 0).trans (V_main_arg0 m c))),
    (rest main_arg1 (by decide) (by decide)).trans (V_main_arg1 m c),
    ((h.1 c).1 2).trans (((dats m 0 c).arrAt_in 2 rfl _).trans ((A_eq m c 2).trans (V_main_arg2 m c))),
    (rest main_arg3 (by decide) (by decide)).trans (V_main_arg3 m c), (rest main_arg4 (by decide) (by decide)).trans (V_main_arg4 m c),
    (rest main_arg5 (by decide) (by decide)).trans (V_main_arg5 m c), (rest main_arg6 (by decide) (by decide)).trans (V_main_arg6 m c),
    (rest main_arg7 (by decide) (by decide)).trans (V_main_arg7 m c)⟩

end Cert.KernelIdeal.Hand

end
-- ==== Proof.Hand.Route.lean ====
/- The choice of two experts, on plain functions: the first place of the greatest logit, the first place of the
   greatest of the others, as the least place that compares equal to the maximum and as the head of a stable
   descending sort; and the two weights. -/
module

public import Idealize.ShloMosaic.PureOps.Ideal
public import Idealize.ShloMosaic.PureOps.Ideal.Laws
public import Idealize.ShloMosaic.Lib.SortFacts
public import Idealize.ShloMosaic.Lib.Pointwise

@[expose] public section

noncomputable section

namespace Cert.Route

open Idealize.ShloMosaic

variable {g : Fin 16 → EReal} {i : Fin 16}

/-- `i` is the first place at which `g` is greatest. -/
def First (g : Fin 16 → EReal) (i : Fin 16) : Prop := ∀ k, g k ≤ g i ∧ (k < i → g k < g i)

/-- `g` with place `i` struck out. -/
def strike (g : Fin 16 → EReal) (i : Fin 16) : Fin 16 → EReal := fun k => if k = i then ⊥ else g k

theorem fold_max (h : First g i) : (Finset.univ : Finset (Fin 16)).fold max ⊥ g = g i := by
  apply le_antisymm
  · rw [Finset.fold_max_le]
    exact ⟨bot_le, fun k _ => (h k).1⟩
  · rw [Finset.le_fold_max]
    exact Or.inr ⟨i, Finset.mem_univ _, le_rfl⟩

/-- A fold of the signed minimum is a value it meets that is below every other. -/
theorem fold_minsi {ι : Type*} (S : Finset ι) (f : ι → BitVec 32) (b c : BitVec 32) (hb : c.toInt ≤ b.toInt)
    (hc : ∀ k ∈ S, c.toInt ≤ (f k).toInt) (k : ι) (hk : k ∈ S) (hkc : f k = c) : S.fold IntOp.minsi b f = c := by
  classical
  have step : ∀ x y : BitVec 32, (IntOp.minsi x y).toInt = min x.toInt y.toInt := by
    intro x y
    unfold IntOp.minsi
    rw [BitVec.slt_eq_decide]
    split
    · rename_i h; exact (min_eq_left (le_of_lt (of_decide_eq_true h))).symm
    · rename_i h
      exact (min_eq_right (not_lt.1 fun hh => h (decide_eq_true hh))).symm
  have low : ∀ T : Finset ι, (∀ k ∈ T, c.toInt ≤ (f k).toInt) → c.toInt ≤ (T.fold IntOp.minsi b f).toInt := by
    intro T
    induction T using Finset.induction_on with
    | empty => intro _; simpa using hb
    | insert a T ha ih =>
      intro hT
      rw [Finset.fold_insert ha, step]
      exact le_min (hT a (Finset.mem_insert_self ..)) (ih fun k hk => hT k (Finset.mem_insert_of_mem hk))
  apply BitVec.eq_of_toInt_eq
  rw [← Finset.insert_erase hk, Finset.fold_insert (Finset.notMem_erase _ _), step, hkc]
  exact min_eq_left (low _ fun k hk => hc k (Finset.mem_of_mem_erase hk))

/-- The least place that compares equal to the maximum is the first place of the maximum. -/
theorem fold_place (h : First g i) (v : EReal) (hv : v = g i) [∀ k, Decidable (g k = v)] :
    (Finset.univ : Finset (Fin 16)).fold IntOp.minsi 2147483647#32
      (fun k => if g k = v then BitVec.ofNat 32 k.val else 16#32) = BitVec.ofNat 32 i.val := by
  have hi : ∀ k : Fin 16, (BitVec.ofNat 32 k.val).toInt = (k.val : Int) := by decide
  refine fold_minsi _ _ _ _ ?_ (fun k _ => ?_) i (Finset.mem_univ _) (if_pos hv.symm)
  · rw [hi]; have := i.isLt; have e : (2147483647#32 : BitVec 32).toInt = 2147483647 := by decide
    omega
  · rw [hi]
    split
    · rename_i hk
      rw [hi]
      have : ¬ k < i := fun hlt => absurd (hk.trans hv) (ne_of_lt ((h k).2 hlt))
      have := Fin.le_def.1 (not_lt.1 this)
      omega
    · have := i.isLt; have e : (16#32 : BitVec 32).toInt = 16 := by decide
      omega

/-- A choice by the equality of two experts' words is a choice by the equality of the experts. -/
theorem select_place {α : Type} (e k : Fin 16) (x y : α) :
    Scalar.select (IntOp.cmpi .eq (BitVec.ofNat 32 e.val) (BitVec.ofNat 32 k.val)) x y = if e = k then x else y := by
  have hw : ∀ e k : Fin 16, (IntOp.cmpi .eq (BitVec.ofNat 32 e.val) (BitVec.ofNat 32 k.val) = 1#1) ↔ e = k := by decide
  unfold Scalar.select
  by_cases h : e = k
  · exact (if_pos ((hw e k).2 h)).trans (if_pos h).symm
  · exact (if_neg fun hh => h ((hw e k).1 hh)).trans (if_neg h).symm

/-! ## The stable descending sort -/

/-- Greater first, equal ones in order of place. -/
def Ahead (g : Fin 16 → EReal) (a b : Fin 16) : Prop := g b < g a ∨ (g b = g a ∧ a < b)

theorem ahead_insert (R : Fin 16 → Fin 16 → Bool) (hR : ∀ a b, R a b = true ↔ g b < g a) (a : Fin 16) (l : List (Fin 16))
    (hl : l.Pairwise (Ahead g)) (ha : ∀ b ∈ l, a < b) : (insertBefore R a l).Pairwise (Ahead g) := by
  induction l with
  | nil => exact List.pairwise_singleton _ _
  | cons b l ih =>
    rw [List.pairwise_cons] at hl
    unfold insertBefore
    split
    · rename_i hb
      rw [List.pairwise_cons]
      refine ⟨fun x hx => ?_, ih hl.2 fun c hc => ha c (List.mem_cons_of_mem _ hc)⟩
      rcases List.mem_cons.1 ((perm_insertBefore R a l).mem_iff.1 hx) with rfl | hx
      · exact Or.inl ((hR _ _).1 hb)
      · exact hl.1 x hx
    · rename_i hb
      have hba : g b ≤ g a := not_lt.1 fun h => hb ((hR _ _).2 h)
      rw [List.pairwise_cons]
      refine ⟨fun x hx => ?_, List.pairwise_cons.2 hl⟩
      have hxb : g x ≤ g b := by
        rcases List.mem_cons.1 hx with rfl | hx
        · exact le_rfl
        · rcases hl.1 x hx with h | h
          · exact h.le
          · exact h.1.le
      rcases lt_or_eq_of_le (hxb.trans hba) with h | h
      · exact Or.inl h
      · exact Or.inr ⟨h, ha x hx⟩

theorem ahead_sort (R : Fin 16 → Fin 16 → Bool) (hR : ∀ a b, R a b = true ↔ g b < g a) (l : List (Fin 16))
    (hl : l.Pairwise (· < ·)) : (stableSort R l).Pairwise (Ahead g) := by
  induction l with
  | nil => exact List.Pairwise.nil
  | cons a l ih =>
    rw [List.pairwise_cons] at hl
    unfold stableSort
    exact ahead_insert R hR a _ (ih hl.2) fun b hb => hl.1 b ((perm_stableSort R l).mem_iff.1 hb)

theorem places_pairwise {n : ℕ} (R : Fin n → Fin n → Bool) (Q : Fin n → Fin n → Prop)
    (h : (sortPositions n R).Pairwise Q) {a b : Fin n} (hab : a < b) : Q (sortedFrom R a) (sortedFrom R b) := by
  unfold sortedFrom
  exact List.pairwise_iff_get.1 h _ _ hab

theorem ahead_places (R : Fin 16 → Fin 16 → Bool) (hR : ∀ a b, R a b = true ↔ g b < g a) {a b : Fin 16} (hab : a < b) :
    Ahead g (sortedFrom R a) (sortedFrom R b) :=
  places_pairwise R _ (ahead_sort R hR (List.finRange 16) (List.pairwise_lt_finRange 16)) hab

/-- The sort's first place is the first place of the maximum. -/
theorem first_sorted (R : Fin 16 → Fin 16 → Bool) (hR : ∀ a b, R a b = true ↔ g b < g a) : First g (sortedFrom R 0) := by
  intro k
  obtain ⟨a, rfl⟩ := sortedFrom_surjective R k
  rcases Fin.eq_zero_or_eq_succ a with rfl | ⟨a, rfl⟩
  · exact ⟨le_rfl, fun h => absurd h (lt_irrefl _)⟩
  · rcases ahead_places R hR (Fin.succ_pos a) with h | h
    · exact ⟨h.le, fun _ => h⟩
    · exact ⟨h.1.le, fun hlt => absurd (hlt.trans h.2) (lt_irrefl _)⟩

theorem sorted_ne (R : Fin 16 → Fin 16 → Bool) : sortedFrom R 1 ≠ sortedFrom R 0 := fun h => by
  have := sortedFrom_injective R h
  exact absurd this (by decide)

/-- Its second place is the first place of the maximum once the first is struck out. -/
theorem second_sorted (hg : ∀ k, ⊥ < g k) (R : Fin 16 → Fin 16 → Bool) (hR : ∀ a b, R a b = true ↔ g b < g a) :
    First (strike g (sortedFrom R 0)) (sortedFrom R 1) := by
  intro k
  unfold strike
  rw [if_neg (sorted_ne R)]
  split
  · exact ⟨bot_le, fun _ => hg _⟩
  · rename_i hk
    obtain ⟨a, rfl⟩ := sortedFrom_surjective R k
    rcases lt_trichotomy a 1 with h1 | rfl | h1
    · exact absurd (congrArg (sortedFrom R) (Fin.lt_one_iff a |>.1 h1)) hk
    · exact ⟨le_rfl, fun h => absurd h (lt_irrefl _)⟩
    · rcases ahead_places R hR h1 with h | h
      · exact ⟨h.le, fun _ => h⟩
      · exact ⟨h.1.le, fun hlt => absurd (hlt.trans h.2) (lt_irrefl _)⟩

/-- The order by which the reference sorts the logits. -/
def order (g : Fin 16 → EReal) (a b : Fin 16) : Bool := FloatOps.cmpfTotal (F := Ideal) (φ := .f32) .gt (g a) (g b) == 1#1

theorem order_iff (a b : Fin 16) : order g a b = true ↔ g b < g a := by
  unfold order
  rw [beq_iff_eq]
  show BitVec.ofBool (decide (g b < g a)) = 1#1 ↔ _
  by_cases h : g b < g a <;> simp [h]

/-- The two experts chosen. -/
def top (g : Fin 16 → EReal) (s : Fin 2) : Fin 16 := sortedFrom (order g) (s.castLE (by decide))

theorem top_ne : top g 1 ≠ top g 0 := sorted_ne _

theorem top_first : First g (top g 0) := first_sorted _ order_iff

theorem top_second (hg : ∀ k, ⊥ < g k) : First (strike g (top g 0)) (top g 1) := second_sorted hg _ order_iff

/-! ## The two weights -/

/-- The ratio of the second expert's weight to the first's. -/
def ratio (g : Fin 16 → EReal) : EReal := Ideal.exp (g (top g 1) - g (top g 0))

/-- The weights of the two experts: one part and `ratio` parts. -/
def weight (g : Fin 16 → EReal) (s : Fin 2) : EReal := Ideal.div (if s = 0 then 1 else ratio g) (1 + ratio g)

/-- The softmax of the two logits, taken relative to the greater, is the two weights. -/
theorem softmax_eq (hb : ∀ k, g k ≠ ⊥) (ht : ∀ k, g k ≠ ⊤) (s : Fin 2) :
    Ideal.div (Ideal.exp (g (top g s) - max ⊥ (max (g (top g 0)) (g (top g 1)))))
      (0 + ∑ q : Fin 2, Ideal.exp (g (top g q) - max ⊥ (max (g (top g 0)) (g (top g 1))))) = weight g s := by
  have hm : max ⊥ (max (g (top g 0)) (g (top g 1))) = g (top g 0) := by
    rw [max_eq_right bot_le, max_eq_left (top_first _).1]
  have h0 : Ideal.exp (g (top g 0) - g (top g 0)) = 1 := by
    rw [EReal.sub_self (ht _) (hb _)]
    show ((Real.exp 0 : ℝ) : EReal) = 1
    rw [Real.exp_zero]; rfl
  rw [hm, Fin.sum_univ_two, h0, zero_add]
  unfold weight
  fin_cases s
  · simp only [Fin.zero_eta, h0, if_true]; rfl
  · rfl

theorem exp_nonneg (x : EReal) : 0 ≤ Ideal.exp x := by
  induction x with
  | bot => exact le_rfl
  | top => exact le_top
  | coe r => exact EReal.coe_nonneg.2 (Real.exp_pos r).le

/-- A sum over the sixteen experts whose weights vanish but at the two chosen is the sum over the two. -/
theorem sum_top (f : Fin 16 → EReal) (r : Fin 16 → EReal) (hr : ∀ e, e ≠ top g 0 → e ≠ top g 1 → r e = 0) :
    ∑ e, f e * r e = ∑ s : Fin 2, f (top g s) * r (top g s) := by
  rw [Fin.sum_univ_two, ← Finset.sum_pair (f := fun e => f e * r e) top_ne.symm]
  refine (Finset.sum_subset (Finset.subset_univ _) fun e _ he => ?_).symm
  rw [Finset.mem_insert, Finset.mem_singleton, not_or] at he
  rw [hr e he.1 he.2, mul_zero]

/-- The kernel's weights: a one at the first expert plus the ratio at the second, over their sum. -/
theorem spread_eq (e : Fin 16) :
    Ideal.div ((if e = top g 0 then 1 else 0) + (if e = top g 1 then ratio g else 0)) (1 + ratio g)
      = if e = top g 0 then weight g 0 else if e = top g 1 then weight g 1 else 0 := by
  have hpos : (1 : EReal) + ratio g ≠ 0 := by
    have : (0 : EReal) ≤ ratio g := Route.exp_nonneg _
    exact ne_of_gt (lt_of_lt_of_le zero_lt_one (le_add_of_nonneg_right this))
  unfold weight
  by_cases h0 : e = top g 0
  · have h1 : e ≠ top g 1 := fun h => top_ne (g := g) (h.symm.trans h0)
    simp [h0, top_ne.symm]
  · by_cases h1 : e = top g 1
    · simp [h1, top_ne]
    · simp only [if_neg h0, if_neg h1, add_zero]
      unfold Ideal.div
      rw [if_neg hpos, zero_mul]

end Cert.Route

end
-- ==== Proof.Hand.Model.lean ====
/- The block's result on plain functions of coordinates: tokens, logits, one expert's output, the weighted sum. -/
module

public import proofs.«01_k».proof.Proof.Hand.Route

@[expose] public section

noncomputable section

namespace Cert.Model

open Idealize.ShloMosaic

/-- A row over its root mean square, times the scale. -/
def tok (x s : Fin 768 → EReal) (k : Fin 768) : EReal :=
  x k * Ideal.rsqrt (Ideal.div (∑ q, x q * x q) (Ideal.ofBits .f32 0x44400000#32) + Ideal.ofBits .f32 0x3727C5AC#32) * s k

/-- A row's logit for one expert. -/
def logit (t w : Fin 768 → EReal) (b : EReal) : EReal := (∑ k, t k * w k) + b

/-- The gated half of the unit. -/
def gate (h : EReal) : EReal :=
  min h (Ideal.ofBits .f32 0x40E00000#32)
    * Ideal.logistic (Ideal.ofBits .f32 0x3FD9DB23#32 * min h (Ideal.ofBits .f32 0x40E00000#32))

/-- The linear half of the unit, and one. -/
def lin (h : EReal) : EReal :=
  min (Ideal.ofBits .f32 0x40E00000#32) (max (Ideal.ofBits .f32 0xC0E00000#32) h) + 1

/-- The even and the odd place of pair `j`. -/
def even (j : Fin 768) : Fin 1536 := ⟨2 * j.val, by omega⟩
def odd (j : Fin 768) : Fin 1536 := ⟨2 * j.val + 1, by omega⟩

/-- A pair of places through the unit. -/
def unit (h : Fin 1536 → EReal) (j : Fin 768) : EReal := gate (h (even j)) * lin (h (odd j))

/-- An expert's output at one column, from the token row, the first layer and the second layer's column. -/
def expert (t : Fin 768 → EReal) (w1 : Fin 1536 → Fin 768 → EReal) (b1 : Fin 1536 → EReal) (w2 : Fin 768 → EReal) (b2 : EReal) : EReal :=
  (∑ j, unit (fun r => logit t (w1 r) (b1 r)) j * w2 j) + b2

end Cert.Model

end
-- ==== Proof.Hand.KernelValue.lean ====
/- The kernel's values read at an index. -/
module

public import proofs.«01_k».proof.Proof.Gen.KernelIdeal
public import proofs.«01_k».proof.Proof.Hand.LaunchI
public import proofs.«01_k».proof.Proof.Hand.Model
public import Idealize.ShloMosaic.Lib.IdealHost

@[expose] public section

set_option maxRecDepth 16384

noncomputable section

namespace Cert.KernelIdeal.Hand

open Cert.KernelIdeal Cert.KernelIdeal.Gen
open Idealize.ShloMosaic Cert.Model Cert.Route

/-! ## Tokens and logits -/

theorem pay3_apply (x : Vec Ideal S32x768 .f32) (s : Vec Ideal S1x768 .f32) (b : Fin 32) (k : Fin 768) :
    k0_pay3 (F := Ideal) x s (ix2 b k) = tok (fun q => x (ix2 b q)) (fun q => s (ix2 0 q)) k := by
  unfold tok
  pointwise [k0_pay3]

theorem pay5_apply (x : Vec Ideal S32x768 .f32) (s : Vec Ideal S1x768 .f32) (b : Fin 32) (k : Fin 768) :
    k0_pay5 (F := Ideal) x s (ix2 b k) = tok (fun q => x (ix2 b q)) (fun q => s (ix2 0 q)) k := by
  rw [← pay3_apply]
  pointwise [k0_pay5]

theorem pay4_apply (x : Vec Ideal S32x768 .f32) (s : Vec Ideal S1x768 .f32) (w : Vec Ideal S16x768 .f32) (c : Vec Ideal S1x16 .f32)
    (b : Fin 32) (e : Fin 16) :
    k0_pay4 (F := Ideal) x s w c (ix2 b e)
      = logit (tok (fun q => x (ix2 b q)) (fun q => s (ix2 0 q))) (fun k => w (ix2 e k)) (c (ix2 0 e)) := by
  unfold logit
  simp only [← pay3_apply]
  pointwise [k0_pay4]

/-! ## The weights -/

theorem ninf : Ideal.ofBits .f32 0xFF800000#32 = ⊥ := by simp [Ideal.ofBits, Ideal.ieee]

section Weights
variable (x : Vec Ideal S32x768 .f32) (s : Vec Ideal S1x768 .f32) (w : Vec Ideal S16x768 .f32) (c : Vec Ideal S1x16 .f32) (b : Fin 32)

/-- The logits of row `b`. -/
def row : Fin 16 → EReal := fun e => k0_pay4 (F := Ideal) x s w c (ix2 b e)

theorem pay6_apply : k0_pay6 (F := Ideal) x s w c (ix2 b 0) = row x s w c b (top (row x s w c b) 0) := by
  rw [← fold_max (top_first (g := row x s w c b))]
  pointwise [k0_pay6]
  rw [ninf]; rfl

theorem pay7_apply : k0_pay7 (F := Ideal) x s w c (ix2 b 0) = BitVec.ofNat 32 (top (row x s w c b) 0).val := by
  pointwise [k0_pay7]
  exact fold_place top_first _ (pay6_apply x s w c b)

theorem pay8_apply (e : Fin 16) : k0_pay8 (F := Ideal) x s w c (ix2 b e) = strike (row x s w c b) (top (row x s w c b) 0) e := by
  pointwise [k0_pay8]
  rw [pay7_apply, select_place, IdealRules.named_const.ideal_named_scalar _ _ _ ⊥ rfl]
  rfl

variable (hb : ∀ e, ⊥ < row x s w c b e)
include hb

theorem pay9_apply : k0_pay9 (F := Ideal) x s w c (ix2 b 0) = row x s w c b (top (row x s w c b) 1) := by
  have h : strike (row x s w c b) (top (row x s w c b) 0) (top (row x s w c b) 1) = row x s w c b (top (row x s w c b) 1) :=
    if_neg top_ne
  rw [← h, ← fold_max (top_second hb)]
  pointwise [k0_pay9]
  rw [ninf]
  exact congrArg (fun f => Finset.fold max ⊥ f Finset.univ) (funext fun e => pay8_apply x s w c b e)

theorem routing_apply (e : Fin 16) :
    routing (F := Ideal) x s w c (ix2 b e) = if e = top (row x s w c b) 0 then weight (row x s w c b) 0
      else if e = top (row x s w c b) 1 then weight (row x s w c b) 1 else 0 := by
  rw [← spread_eq]
  unfold routing
  have hs : strike (row x s w c b) (top (row x s w c b) 0) (top (row x s w c b) 1) = row x s w c b (top (row x s w c b) 1) :=
    if_neg top_ne
  pointwise [k0_pay10]
  rw [pay6_apply, pay7_apply, pay9_apply x s w c b hb]
  simp only [pay8_apply, fold_place (top_second hb) _ hs.symm, select_place]
  rfl

end Weights

/-! ## One expert's contribution -/

theorem pay12_apply (t : Vec Ideal S32x768 .bf16) (w : Vec Ideal S1x768x768 .f32) (c : Vec Ideal S1x1x768 .f32)
    (b : Fin 32) (j : Fin 768) :
    k0_pay12 (F := Ideal) t w c (ix2 b j) = logit (fun k => t (ix2 b k)) (fun k => w (ix3 0 j k)) (c (ix3 0 0 j)) := by
  unfold logit
  pointwise [k0_pay12]

/-- A pair of one half of the first layer through the unit. -/
def pair (h : Fin 768 → EReal) (q : Fin 384) : EReal := gate (h ⟨2 * q.val, by omega⟩) * lin (h ⟨2 * q.val + 1, by omega⟩)

/-- The product with the selection of even places is the value at that place. -/
theorem selected (f : Fin 768 → EReal) (p : Fin 768 → EReal) (q : Fin 384) (hp : ∀ x, p x = if x.val = 2 * q.val then 1 else 0) :
    ∑ x, f x * p x = f ⟨2 * q.val, by omega⟩ := by
  rw [Finset.sum_eq_single (⟨2 * q.val, by omega⟩ : Fin 768) _ fun h => absurd (Finset.mem_univ _) h]
  · rw [hp, if_pos rfl, mul_one]
  · intro x _ hx
    rw [hp, if_neg fun h => hx (Fin.ext h), mul_zero]

theorem turned (q : Fin 384) (h : (2 * q.val + 768 - 767) % 768 < 768) :
    (⟨(2 * q.val + 768 - 767) % 768, h⟩ : Fin 768) = ⟨2 * q.val + 1, by omega⟩ := Fin.ext (by
  show (2 * q.val + 768 - 767) % 768 = 2 * q.val + 1
  omega)

theorem pay11_apply (t : Vec Ideal S32x768 .bf16) (w : Vec Ideal S1x768x768 .f32) (c : Vec Ideal S1x1x768 .f32) (p : Vec Ideal S768x384 .bf16)
    (hp : ∀ (x : Fin 768) (q : Fin 384), p (ix2 x q) = if x.val = 2 * q.val then 1 else 0) (b : Fin 32) (q : Fin 384) :
    k0_pay11 (F := Ideal) t w c p (ix2 b q)
      = pair (fun j => logit (fun k => t (ix2 b k)) (fun k => w (ix3 0 j k)) (c (ix3 0 0 j))) q := by
  pointwise [k0_pay11]
  rw [selected _ (fun x => p (ix2 x q)) q fun x => hp x q]
  simp only [turned]
  rfl

theorem pay15_apply (e : Fin 16) (v51 : Vec Ideal S32x384 .bf16) (t : Vec Ideal S32x768 .bf16) (w1 : Vec Ideal S1x768x768 .f32)
    (c1 : Vec Ideal S1x1x768 .f32) (p : Vec Ideal S768x384 .bf16) (w : Vec Ideal S1x768x768 .f32) (c : Vec Ideal S1x1x768 .f32)
    (r : Vec Ideal S32x16 .f32) (hp : ∀ (x : Fin 768) (q : Fin 384), p (ix2 x q) = if x.val = 2 * q.val then 1 else 0)
    (b : Fin 32) (j : Fin 768) :
    k0_pay15 (F := Ideal) (BitVec.ofNat 32 e.val) v51 (k0_pay12 t w1 c1) (k0_pay13 t w1 c1) (k0_pay14 t w1 c1) p w c r (ix2 b j)
      = (∑ q : Fin 384, v51 (ix2 b q) * w (ix3 0 j ⟨q.val, by omega⟩)
          + ∑ q : Fin 384, pair (fun j => logit (fun k => t (ix2 b k)) (fun k => w1 (ix3 0 j k)) (c1 (ix3 0 0 j))) q
              * w (ix3 0 j ⟨384 + q.val, by omega⟩)
          + c (ix3 0 0 j)) * r (ix2 b e) := by
  pointwise [k0_pay15, k0_pay13, k0_pay14]
  simp only [select_place]
  rw [Finset.sum_ite_eq' Finset.univ e, if_pos (Finset.mem_univ e)]
  simp only [selected _ (fun x => p (ix2 x _)) _ fun x => hp x _, turned, pay12_apply]
  rfl

end Cert.KernelIdeal.Hand

end
-- ==== Proof.Hand.Blocks.lean ====
/- The blocks that the kernel's steps read, at an index, as elements of the arguments. -/
module

public import proofs.«01_k».proof.Proof.Gen.KernelIdeal
public import proofs.«01_k».proof.Proof.Hand.LaunchI
public import Idealize.ShloMosaic.Lib.Pipeline.ValueKit
public import Idealize.ShloMosaic.Lib.StableHlo.ReadAt
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.Rounds

variable (m : (ℓ : Loc nD τ sig) → Buf (Elt Ideal) ℓ) (c : Dev nD)

/-! ## The arguments, by coordinates -/

def aX (b : Fin 32) (k : Fin 768) : EReal := (m (c.tc.loc main_arg0) : Vec Ideal S32x768 .f32) (ix2 b k)
def aS (k : Fin 768) : EReal := (m (c.tc.loc main_arg1) : Vec Ideal S768 .f32) (ix1 k)
def aG (e : Fin 16) (k : Fin 768) : EReal := (m (c.tc.loc main_arg2) : Vec Ideal S16x768 .f32) (ix2 e k)
def aB (e : Fin 16) : EReal := (m (c.tc.loc main_arg3) : Vec Ideal S16 .f32) (ix1 e)
def aW1 (e : Fin 16) (j : Fin 1536) (k : Fin 768) : EReal := (m (c.tc.loc main_arg4) : Vec Ideal S16x1536x768 .f32) (ix3 e j k)
def aB1 (e : Fin 16) (j : Fin 1536) : EReal := (m (c.tc.loc main_arg5) : Vec Ideal S16x1536 .f32) (ix2 e j)
def aW2 (e : Fin 16) (j k : Fin 768) : EReal := (m (c.tc.loc main_arg6) : Vec Ideal S16x768x768 .f32) (ix3 e j k)
def aB2 (e : Fin 16) (j : Fin 768) : EReal := (m (c.tc.loc main_arg7) : Vec Ideal S16x768 .f32) (ix2 e j)

/-! ## What the host operations leave -/

theorem v1_apply (e : Fin 16) (j : Fin 768) :
    (V m c main_v1 : Vec Ideal S16x1x768 .f32) (ix3 e 0 j) = aB1 m c e ⟨j.val, by omega⟩ := by
  unfold aB1 V; after_reads_at
theorem v3_apply (e : Fin 16) (j : Fin 768) :
    (V m c main_v3 : Vec Ideal S16x1x768 .f32) (ix3 e 0 j) = aB1 m c e ⟨768 + j.val, by omega⟩ := by
  unfold aB1 V; after_reads_at
theorem v4_apply (e : Fin 16) (j : Fin 768) : (V m c main_v4 : Vec Ideal S16x1x768 .f32) (ix3 e 0 j) = aB2 m c e j := by
  unfold aB2 V; after_reads_at
theorem v5_apply (k : Fin 768) : (V m c main_v5 : Vec Ideal S1x768 .f32) (ix2 0 k) = aS m c k := by
  unfold aS V; after_reads_at
theorem v6_apply (e : Fin 16) : (V m c main_v6 : Vec Ideal S1x16 .f32) (ix2 0 e) = aB m c e := by
  unfold aB V; after_reads_at
theorem v12_apply (x : Fin 768) (q : Fin 384) :
    (V m c main_v12 : Vec Ideal S768x384 .bf16) (ix2 x q) = if x.val = 2 * q.val then (1 : EReal) else 0 := by
  unfold V; after_reads_at
  rw [show IntOp.muli (2#32) (BitVec.ofNat 32 q.val) = BitVec.ofNat 32 (2 * q.val) from by
    apply BitVec.eq_of_toNat_eq; simp [IntOp.muli, BitVec.toNat_mul]]
  have h : BitVec.ofNat 32 x.val = BitVec.ofNat 32 (2 * q.val) ↔ x.val = 2 * q.val := by
    rw [BitVec.toNat_inj.symm, BitVec.toNat_ofNat, BitVec.toNat_ofNat, Nat.mod_eq_of_lt (by omega), Nat.mod_eq_of_lt (by omega)]
  by_cases hx : x.val = 2 * q.val
  · rw [if_pos hx, hx]
    simp [IntOp.cmpi, FloatOps.uitofp]
  · rw [if_neg hx]
    have hn : ¬ (BitVec.ofNat 32 x.val = BitVec.ofNat 32 (2 * q.val)) := fun e => hx (h.1 e)
    simp [IntOp.cmpi, FloatOps.uitofp, hn]

/-! ## The windows' blocks -/

/-- The windows that follow the grid; the others stay where they are. -/
theorem idx4 : ∀ t, win0_4.index t = ![t.val, 0, 0] := by decide +kernel
theorem idx5 : ∀ t, win0_5.index t = ![t.val, 0, 0] := by decide +kernel
theorem idx6 : ∀ t, win0_6.index t = ![t.val, 0, 0] := by decide +kernel
theorem idx0 (t) : win0_0.index t = ![0, 0] := rfl
theorem idx1 (t) : win0_1.index t = ![0, 0] := rfl
theorem idx2 (t) : win0_2.index t = ![0, 0] := rfl
theorem idx3 (t) : win0_3.index t = ![0, 0] := rfl
theorem idx7 (t) : win0_7.index t = ![0, 0] := rfl

theorem pt_fin (e : Fin 16) : (pt e.val).val = e.val := by have := e.isLt; simp only [pt]; omega

theorem blk0_apply (b : Fin 32) (k : Fin 768) : (iblk m c 0 (pt 0) : Vec Ideal S32x768 .f32) (ix2 b k) = aX m c b k := by
  rw [aX, ← V_main_arg0 m c]; blk_ext [iblk, idx0, pt_fin]
theorem blk1_apply (k : Fin 768) : (iblk m c 1 (pt 0) : Vec Ideal S1x768 .f32) (ix2 0 k) = aS m c k := by
  rw [← v5_apply]; blk_ext [iblk, idx1, pt_fin]
theorem blk2_apply (e : Fin 16) (k : Fin 768) : (iblk m c 2 (pt 0) : Vec Ideal S16x768 .f32) (ix2 e k) = aG m c e k := by
  rw [aG, ← V_main_arg2 m c]; blk_ext [iblk, idx2, pt_fin]
theorem blk3_apply (e : Fin 16) : (iblk m c 3 (pt 0) : Vec Ideal S1x16 .f32) (ix2 0 e) = aB m c e := by
  rw [← v6_apply]; blk_ext [iblk, idx3, pt_fin]

variable (e : Fin 16)

theorem blk4_apply (j : Fin 768) : (iblk m c 4 (pt e.val) : Vec Ideal S1x1x768 .f32) (ix3 0 0 j) = aB1 m c e ⟨j.val, by omega⟩ := by
  rw [← v1_apply]; blk_ext [iblk, idx4, pt_fin]
theorem blk5_apply (j : Fin 768) : (iblk m c 5 (pt e.val) : Vec Ideal S1x1x768 .f32) (ix3 0 0 j) = aB1 m c e ⟨768 + j.val, by omega⟩ := by
  rw [← v3_apply]; blk_ext [iblk, idx5, pt_fin]
theorem blk6_apply (j : Fin 768) : (iblk m c 6 (pt e.val) : Vec Ideal S1x1x768 .f32) (ix3 0 0 j) = aB2 m c e j := by
  rw [← v4_apply]; blk_ext [iblk, idx6, pt_fin]
theorem blk7_apply (x : Fin 768) (q : Fin 384) :
    (iblk m c 7 (pt e.val) : Vec Ideal S768x384 .bf16) (ix2 x q) = if x.val = 2 * q.val then (1 : EReal) else 0 := by
  rw [← v12_apply m c]; blk_ext [iblk, idx7, pt_fin]

/-! ## The copied blocks -/

theorem up_apply {r : ℕ} (hr : r ≤ 768) (j k : Fin 768) :
    blk1 (F := Ideal) hr c (V m c main_arg4) e (ix3 0 j k) = aW1 m c e ⟨r + j.val, by omega⟩ k := by
  rw [aW1, ← V_main_arg4 m c]
  unfold blk1 w1src
  rw [View.read_apply]
  refine (cast_eq _ _).trans (congrArg (V m c main_arg4) ?_)
  refine (funext fun a => Fin.ext ?_)
  match a with
  | 0 => show e.val + 1 * 0 = e.val; omega
  | 1 => show r + 1 * j.val = r + j.val; omega
  | 2 => show 0 + 1 * k.val = k.val; omega
theorem down_apply (j k : Fin 768) : blk2 (F := Ideal) c (V m c main_arg6) e (ix3 0 j k) = aW2 m c e j k := by
  rw [aW2, ← V_main_arg6 m c]
  unfold blk2 w2src
  rw [View.read_apply]
  refine (cast_eq _ _).trans (congrArg (V m c main_arg6) ?_)
  refine (funext fun a => Fin.ext ?_)
  match a with
  | 0 => show e.val + 1 * 0 = e.val; omega
  | 1 => show 0 + 1 * j.val = j.val; omega
  | 2 => show 0 + 1 * k.val = k.val; omega

end Cert.KernelIdeal.Hand

end
-- ==== Proof.Hand.KernelTotal.lean ====
/- What the kernel leaves in its output, at an index: the row and the weighted outputs of its two experts. -/
module

public import proofs.«01_k».proof.Proof.Hand.KernelValue
public import proofs.«01_k».proof.Proof.Hand.Blocks

@[expose] public section

set_option maxRecDepth 16384

noncomputable section

namespace Cert.KernelIdeal.Hand

open Cert.KernelIdeal Cert.KernelIdeal.Gen
open Idealize.ShloMosaic Idealize.ShloMosaic.Rounds Cert.Model Cert.Route

/-! ## The two halves of the first layer, joined -/

/-- A sum over the pairs is the sum over those of the first half and over those of the second. -/
theorem sum_halves (f : Fin 768 → EReal) :
    ∑ j, f j = ∑ q : Fin 384, f ⟨q.val, by omega⟩ + ∑ q : Fin 384, f ⟨384 + q.val, by omega⟩ :=
  Fin.sum_univ_add (a := 384) (b := 384) f

theorem unit_first (h : Fin 1536 → EReal) (q : Fin 384) :
    unit h ⟨q.val, by omega⟩ = pair (fun j => h ⟨j.val, by omega⟩) q := rfl
theorem unit_second (h : Fin 1536 → EReal) (q : Fin 384) :
    unit h ⟨384 + q.val, by omega⟩ = pair (fun j => h ⟨768 + j.val, by omega⟩) q := by
  unfold unit pair
  rw [show even ⟨384 + q.val, by omega⟩ = (⟨768 + 2 * q.val, by omega⟩ : Fin 1536) from Fin.ext (by simp only [even]; omega),
    show odd ⟨384 + q.val, by omega⟩ = (⟨768 + (2 * q.val + 1), by omega⟩ : Fin 1536) from Fin.ext (by simp only [odd]; omega)]

variable (m : (ℓ : Loc nD τ sig) → Buf (Elt Ideal) ℓ) (c : Dev nD)

/-- The normed token row, and its logits. -/
def tokRow (b : Fin 32) : Fin 768 → EReal := tok (aX m c b) (aS m c)
def logits (b : Fin 32) (e : Fin 16) : EReal := logit (tokRow m c b) (aG m c e) (aB m c e)
/-- Expert `e`'s output for a token row, at a column. -/
def expertOut (b : Fin 32) (j : Fin 768) (e : Fin 16) : EReal := expert (tokRow m c b) (aW1 m c e) (aB1 m c e) (aW2 m c e j) (aB2 m c e j)

theorem tokens_apply (b : Fin 32) (k : Fin 768) : tokens m c (ix2 b k) = tokRow m c b k := by
  rw [tokens, pay5_apply]
  simp only [blk0_apply, blk1_apply]; rfl

theorem row_eq (b : Fin 32) : row (iblk m c 0 (pt 0)) (iblk m c 1 (pt 0)) (iblk m c 2 (pt 0)) (iblk m c 3 (pt 0)) b = logits m c b := by
  funext e
  rw [row, pay4_apply]
  simp only [blk0_apply, blk1_apply, blk2_apply, blk3_apply]; rfl

theorem weights_apply (b : Fin 32) (hb : ∀ e, ⊥ < logits m c b e) (e : Fin 16) :
    weights m c (ix2 b e) = if e = top (logits m c b) 0 then weight (logits m c b) 0
      else if e = top (logits m c b) 1 then weight (logits m c b) 1 else 0 := by
  rw [weights, routing_apply _ _ _ _ _ (by rw [row_eq]; exact hb), row_eq]

/-- One expert's part, from what its blocks hold. -/
theorem contrib_apply (i : grid0.Coords) (e : Fin 16) (hi : (i 0).val = e.val) (xt : Vec Ideal S32x768 .bf16) (xr : Vec Ideal S32x16 .f32)
    (ba bb b2 : Vec Ideal S1x1x768 .f32) (ps : Vec Ideal S768x384 .bf16) (wa wb w2 : Vec Ideal S1x768x768 .f32)
    (hp : ∀ (x : Fin 768) (q : Fin 384), ps (ix2 x q) = if x.val = 2 * q.val then 1 else 0)
    (t : Fin 768 → EReal) (u : Fin 1536 → Fin 768 → EReal) (v : Fin 1536 → EReal) (d : Fin 768 → EReal) (z : EReal) (b : Fin 32) (j : Fin 768)
    (ht : ∀ k, xt (ix2 b k) = t k) (hwa : ∀ j k : Fin 768, wa (ix3 0 j k) = u ⟨j.val, by omega⟩ k)
    (hwb : ∀ j k : Fin 768, wb (ix3 0 j k) = u ⟨768 + j.val, by omega⟩ k) (hba : ∀ j : Fin 768, ba (ix3 0 0 j) = v ⟨j.val, by omega⟩)
    (hbb : ∀ j : Fin 768, bb (ix3 0 0 j) = v ⟨768 + j.val, by omega⟩) (hw2 : ∀ k, w2 (ix3 0 j k) = d k) (hb2 : b2 (ix3 0 0 j) = z) :
    contrib (F := Ideal) i xt xr ba bb b2 ps wa wb w2 (ix2 b j) = expert t u v d z * xr (ix2 b e) := by
  rw [contrib, hi, pay15_apply _ _ _ _ _ _ _ _ _ hp]
  simp only [pay11_apply _ _ _ _ hp, ht, hwa, hwb, hba, hbb, hw2, hb2]
  unfold expert
  rw [sum_halves]
  simp only [unit_first, unit_second]

theorem partOf_apply (e : Fin 16) (b : Fin 32) (j : Fin 768) :
    partOf m c (pt e.val) (ix2 b j) = expertOut m c b j e * weights m c (ix2 b e) := by
  have hk : Ring.bk 16 (pt e.val).val = e := by rw [pt_fin]; exact Fin.ext (by simp [Ring.bk])
  have hc : (grid0.coords (pt e.val) 0).val = e.val := by
    revert e; decide +kernel
  rw [partOf, hk]
  exact contrib_apply _ e hc _ _ _ _ _ _ _ _ _ (blk7_apply m c e) _ _ _ _ _ b j (tokens_apply m c b)
    (fun j k => (up_apply m c e rowA j k).trans (congrArg (fun r => aW1 m c e r k) (Fin.ext (Nat.zero_add _))))
    (up_apply m c e rowB) (blk4_apply m c e) (blk5_apply m c e) (down_apply m c e j) (blk6_apply m c e j)

/-- The output after point `n`, from the parts `f` of the experts so far. -/
theorem total_apply (b : Fin 32) (j : Fin 768) (f : Fin 16 → EReal) (hf : ∀ e : Fin 16, partOf m c (pt e.val) (ix2 b j) = f e) (n : ℕ) (hn : n < 16) :
    total m c n (ix2 b j) = aX m c b j + ∑ e : Fin (n + 1), f ⟨e.val, by omega⟩ := by
  induction n with
  | zero =>
    have h : total m c 0 (ix2 b j) = aX m c b j + partOf m c (pt (0 : Fin 16).val) (ix2 b j) := by
      rw [← blk0_apply]; unfold total; pointwise [k0_pay1]
    rw [h, hf, Fin.sum_univ_one]; rfl
  | succ n ih =>
    have h : total m c (n + 1) (ix2 b j) = total m c n (ix2 b j) + partOf m c (pt (⟨n + 1, hn⟩ : Fin 16).val) (ix2 b j) := by
      conv_lhs => unfold total
      pointwise [k0_pay2]
    rw [h, ih (by omega), hf, Fin.sum_univ_castSucc (n := n + 1), add_assoc]; rfl

/-- A sum of products with a row that is nothing but at the two experts taken. -/
theorem sum_two (g f r : Fin 16 → EReal) (hr : ∀ e, r e = if e = top g 0 then weight g 0 else if e = top g 1 then weight g 1 else 0) :
    ∑ e, f e * r e = ∑ s : Fin 2, f (top g s) * weight g s := by
  rw [sum_top (g := g) f r fun e h0 h1 => by rw [hr, if_neg h0, if_neg h1]]
  rw [Fin.sum_univ_two, Fin.sum_univ_two, hr, hr, if_pos rfl, if_neg top_ne, if_pos rfl]

/-- The kernel's result at an index. -/
theorem result_apply (b : Fin 32) (hb : ∀ e, ⊥ < logits m c b e) (j : Fin 768) :
    total m c 15 (ix2 b j)
      = aX m c b j + ∑ s : Fin 2, expertOut m c b j (top (logits m c b) s) * weight (logits m c b) s := by
  have h := total_apply m c b j (fun e => expertOut m c b j e * weights m c (ix2 b e)) (fun e => partOf_apply m c e b j) 15 (by omega)
  refine h.trans ?_
  exact congrArg (fun z => aX m c b j + z) (sum_two (logits m c b) (expertOut m c b j) (fun e => weights m c (ix2 b e)) (weights_apply m c b hb))

end Cert.KernelIdeal.Hand

end
-- ==== Proof.Hand.RefRoute.lean ====
/- The two greatest of a row with their places, and gathers at such a place, read at an index. -/
module

public import proofs.«01_k».proof.Proof.Hand.Route
public import Idealize.ShloMosaic.Lib.Pointwise
public import Idealize.ShloMosaic.Lib.ReduceAll

@[expose] public section

set_option maxRecDepth 16384

noncomputable section

namespace Cert.RefRoute

open Idealize.ShloMosaic Cert.Route

/-! ## The two greatest -/

section Greatest
variable (x : Vec Ideal ⟨2, ![32, 16]⟩ .f32) (h : (⟨2, ![32, 16]⟩ : Shape).Slices (fun _ => 0) ⟨2, ![32, 2]⟩) (b : Fin 32) (s : Fin 2)

theorem along_place (k : Fin 16) (j : (⟨2, ![32, 16]⟩ : Shape).Idx) (hj : j 0 = b) : j.along (1 : Fin 2) k = ix2 b k := by
  funext a
  match a with
  | 0 => exact (Function.update_of_ne (by decide) _ _).trans hj
  | 1 => exact Function.update_self _ _ _

/-- The place the row's sort takes from, for any spelling `f` of the row's places. -/
theorem sorted_place (f : Fin 16 → (⟨2, ![32, 16]⟩ : Shape).Idx) (hf : ∀ k, f k = ix2 b k) :
    sortedFrom (fun k k' => FloatOps.cmpfTotal (F := Ideal) (φ := .f32) .gt (x (f k)) (x (f k')) == 1#1) (s.castLE (by decide))
      = top (fun e => x (ix2 b e)) s := by
  obtain rfl : f = fun k => ix2 b k := funext hf
  rfl

theorem cut_place : ∀ a : Fin 2, ((ix2 b (s.castLE (by decide : 2 ≤ 16)) : (⟨2, ![32, 16]⟩ : Shape).Idx) a : ℕ) = 0 + ((ix2 b s : (⟨2, ![32, 2]⟩ : Shape).Idx) a : ℕ)
  | 0 => (Nat.zero_add _).symm
  | 1 => (Nat.zero_add _).symm

/-- What the row's sort carries along, at the places kept. -/
theorem sorted_second {β : Type} (y : (⟨2, ![32, 16]⟩ : Shape).Idx → β) :
    (Host.sort2 ⟨2, ![32, 16]⟩ 1 (fun l r : Ideal .f32 × β => FloatOps.cmpfTotal (F := Ideal) (φ := .f32) .gt l.1 r.1) x y).2
        (ix2 b (s.castLE (by decide : 2 ≤ 16)))
      = y (ix2 b (top (fun e => x (ix2 b e)) s)) := by
  have hf : ∀ k : Fin 16, Shape.Idx.along (ix2 b (s.castLE (by decide : 2 ≤ 16)) : (⟨2, ![32, 16]⟩ : Shape).Idx) (1 : Fin 2) k = ix2 b k :=
    fun k => along_place b k _ rfl
  exact congrArg y ((hf _).trans (congrArg (fun k : Fin 16 => (ix2 b k : (⟨2, ![32, 16]⟩ : Shape).Idx)) (sorted_place x b s _ hf)))
theorem sorted_first {β : Type} (y : (⟨2, ![32, 16]⟩ : Shape).Idx → β) :
    (Host.sort2 ⟨2, ![32, 16]⟩ 1 (fun l r : Ideal .f32 × β => FloatOps.cmpfTotal (F := Ideal) (φ := .f32) .gt l.1 r.1) x y).1
        (ix2 b (s.castLE (by decide : 2 ≤ 16)))
      = x (ix2 b (top (fun e => x (ix2 b e)) s)) := by
  have hf : ∀ k : Fin 16, Shape.Idx.along (ix2 b (s.castLE (by decide : 2 ≤ 16)) : (⟨2, ![32, 16]⟩ : Shape).Idx) (1 : Fin 2) k = ix2 b k :=
    fun k => along_place b k _ rfl
  exact congrArg x ((hf _).trans (congrArg (fun k : Fin 16 => (ix2 b k : (⟨2, ![32, 16]⟩ : Shape).Idx)) (sorted_place x b s _ hf)))

theorem greatest_value : (Host.topK ⟨2, ![32, 2]⟩ 1 (FloatOps.cmpfTotal (F := Ideal) (φ := .f32) .gt) x h).1 (ix2 b s)
    = x (ix2 b (top (fun e => x (ix2 b e)) s)) := by
  unfold Host.topK
  dsimp only
  rw [extractStridedSlice_apply _ _ _ _ (ix2 b (s.castLE (by decide : 2 ≤ 16))) (cut_place b s)]
  exact sorted_first x b s _

theorem greatest_place : (Host.topK ⟨2, ![32, 2]⟩ 1 (FloatOps.cmpfTotal (F := Ideal) (φ := .f32) .gt) x h).2 (ix2 b s)
    = BitVec.ofNat 32 (top (fun e => x (ix2 b e)) s).val := by
  unfold Host.topK
  dsimp only
  rw [extractStridedSlice_apply _ _ _ _ (ix2 b (s.castLE (by decide : 2 ≤ 16))) (cut_place b s), sorted_second]
  generalize top (fun e => x (ix2 b e)) s = k
  rfl
end Greatest

/-! ## The gathers -/

section Gathers
variable {α : Type} (idx : IVec ⟨3, ![32, 2, 1]⟩ 32) (b : Fin 32) (s : Fin 2) (e : Fin 16)

/-- The value of a place, as the word of an index. -/
theorem word_place (e : Fin 16) : (BitVec.ofNat 32 e.val).toInt.toNat = e.val := by revert e; decide

/-- Rows of a matrix. -/
abbrev rowsDims (C : ℕ) (wf : GatherDims.WF ⟨2, ![16, C]⟩ ⟨3, ![32, 2, 1]⟩ ⟨3, ![32, 2, C]⟩ [2] [0] [] [0] [] 2 ![1, C]) :
    GatherDims ⟨2, ![16, C]⟩ ⟨3, ![32, 2, 1]⟩ ⟨3, ![32, 2, C]⟩ where
  offsetDims := [2]
  collapsedSliceDims := [0]
  operandBatchingDims := []
  startIndicesBatchingDims := []
  startIndexMap := [0]
  indexVectorDim := 2
  sliceSizes := ![1, C]
  wf := wf

theorem gather_rows {C : ℕ} (wf) (x : (⟨2, ![16, C]⟩ : Shape).Idx → α) (he : idx (ix3 b s 0) = BitVec.ofNat 32 e.val) (j : Fin C) :
    Host.gather (rowsDims C wf) x idx (ix3 b s j) = x (ix2 e j) := by
  unfold Host.gather
  congr 1
  funext a
  refine Fin.ext ?_
  show (rowsDims C wf).start (ix3 b s j) idx a + (rowsDims C wf).batchCoord (ix3 b s j) a + (rowsDims C wf).offCoord (ix3 b s j) a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 2) ∈ (rowsDims C wf).startIndexMap from List.mem_singleton.mpr rfl)]
    have hsi : (rowsDims C wf).siIdx (ix3 b s j) ⟨List.idxOf (0 : Fin 2) (rowsDims C wf).startIndexMap,
        List.idxOf_lt_length_iff.2 (List.mem_singleton.mpr rfl)⟩ = ix3 b s 0 := by
      funext b; refine Fin.ext ?_
      match b with
      | 0 => rfl
      | 1 => rfl
      | 2 => rfl
    rw [hsi, he, word_place]
    exact Nat.min_eq_left (Nat.le_of_lt_succ e.isLt)
  | 1 => exact (Nat.zero_add _).trans rfl

/-- Matrices of a stack. -/
abbrev stackDims (C D : ℕ) (wf : GatherDims.WF ⟨3, ![16, C, D]⟩ ⟨3, ![32, 2, 1]⟩ ⟨4, ![32, 2, C, D]⟩ [2, 3] [0] [] [0] [] 2 ![1, C, D]) :
    GatherDims ⟨3, ![16, C, D]⟩ ⟨3, ![32, 2, 1]⟩ ⟨4, ![32, 2, C, D]⟩ where
  offsetDims := [2, 3]
  collapsedSliceDims := [0]
  operandBatchingDims := []
  startIndicesBatchingDims := []
  startIndexMap := [0]
  indexVectorDim := 2
  sliceSizes := ![1, C, D]
  wf := wf

theorem gather_stack {C D : ℕ} (wf) (x : (⟨3, ![16, C, D]⟩ : Shape).Idx → α) (he : idx (ix3 b s 0) = BitVec.ofNat 32 e.val) (j : Fin C) (k : Fin D) :
    Host.gather (stackDims C D wf) x idx (ix4 b s j k) = x (ix3 e j k) := by
  unfold Host.gather
  congr 1
  funext a
  refine Fin.ext ?_
  show (stackDims C D wf).start (ix4 b s j k) idx a + (stackDims C D wf).batchCoord (ix4 b s j k) a + (stackDims C D wf).offCoord (ix4 b s j k) a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 3) ∈ (stackDims C D wf).startIndexMap from List.mem_singleton.mpr rfl)]
    have hsi : (stackDims C D wf).siIdx (ix4 b s j k) ⟨List.idxOf (0 : Fin 3) (stackDims C D wf).startIndexMap,
        List.idxOf_lt_length_iff.2 (List.mem_singleton.mpr rfl)⟩ = ix3 b s 0 := by
      funext b; refine Fin.ext ?_
      match b with
      | 0 => rfl
      | 1 => rfl
      | 2 => rfl
    rw [hsi, he, word_place]
    exact Nat.min_eq_left (Nat.le_of_lt_succ e.isLt)
  | 1 => exact (Nat.zero_add _).trans rfl
  | 2 => exact (Nat.zero_add _).trans rfl
end Gathers

end Cert.RefRoute

end
-- ==== Proof.Hand.RefValue.lean ====
/- The reference's values read at an index. -/
module

public import proofs.«01_k».proof.Proof.Gen.ReferenceIdeal
public import proofs.«01_k».proof.Proof.Gen.ReferenceIdeal.Read
public import proofs.«01_k».proof.Proof.Hand.RefRoute
public import proofs.«01_k».proof.Proof.Hand.Model
public import Idealize.ShloMosaic.Lib.IdealHost

@[expose] public section

set_option maxRecDepth 16384

noncomputable section

namespace Cert.ReferenceIdeal.Hand

open Cert.ReferenceIdeal Cert.ReferenceIdeal.Gen Cert.ReferenceIdeal.Read
open Idealize.ShloMosaic Cert.Model Cert.Route Cert.RefRoute

variable (x : Vec Ideal S32x768 .f32) (sc : Vec Ideal S768 .f32) (gw : Vec Ideal S16x768 .f32) (gb : Vec Ideal S16 .f32)
  (w1 : Vec Ideal S16x1536x768 .f32) (b1 : Vec Ideal S16x1536 .f32) (w2 : Vec Ideal S16x768x768 .f32) (b2 : Vec Ideal S16x768 .f32)
  (b : Fin 32)

/-! ## Tokens and logits -/

def rTok : Fin 768 → EReal := tok (fun q => x (ix2 b q)) (fun q => sc (ix1 q))
def rLogits (e : Fin 16) : EReal := logit (rTok x sc b) (fun k => gw (ix2 e k)) (gb (ix1 e))

theorem tok_apply (k : Fin 768) : val_main_v12 (F := Ideal) x sc (ix2 b k) = rTok x sc b k := by
  unfold rTok tok
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem logits_apply (e : Fin 16) : val_main_v17 (F := Ideal) x sc gw gb (ix2 b e) = rLogits x sc gw gb b e := by
  unfold rLogits logit
  simp only [← tok_apply]
  pointwise [val_main_v17, val_main_v16, val_main_v15, val_main_v14, val_main_v13]

theorem values_apply (s : Fin 2) : val_main_values (F := Ideal) x sc gw gb (ix2 b s) = rLogits x sc gw gb b (top (rLogits x sc gw gb b) s) := by
  rw [val_main_values, greatest_value, ← logits_apply]
  simp only [logits_apply]

theorem indices_apply (s : Fin 2) : val_main_indices (F := Ideal) x sc gw gb (ix2 b s) = BitVec.ofNat 32 (top (rLogits x sc gw gb b) s).val := by
  rw [val_main_indices, greatest_place]
  simp only [logits_apply]

/-! ## The weights -/

theorem minus_infinity : Ideal.ofBits .f32 0xFF800000#32 = ⊥ := by simp [Ideal.ofBits, Ideal.ieee]

theorem fold_two (f : Fin 2 → EReal) : Finset.fold max ⊥ f Finset.univ = max (f 0) (f 1) := by
  rw [show (Finset.univ : Finset (Fin 2)) = {0, 1} from rfl, Finset.fold_insert (by simp), Finset.fold_singleton, max_bot_right]

theorem weight_apply (hb : ∀ e, rLogits x sc gw gb b e ≠ ⊥) (ht : ∀ e, rLogits x sc gw gb b e ≠ ⊤) (s : Fin 2) :
    val_main_v28 (F := Ideal) x sc gw gb (ix2 b s) = weight (rLogits x sc gw gb b) s := by
  rw [← softmax_eq hb ht]
  simp only [← values_apply]
  pointwise [val_main_v28, val_main_v27, val_main_v26, val_main_v25, val_main_v24, val_main_v23, val_main_v22, val_main_v21, val_main_v20, val_main_v19, val_main_v18, val_main_cst_2, val_main_cst_3, val_main_cst_4]
  rw [minus_infinity, fold_two]

/-! ## The experts taken -/

theorem place_apply (s : Fin 2) : val_main_call0_v5 (F := Ideal) x sc gw gb (ix3 b s 0) = BitVec.ofNat 32 (top (rLogits x sc gw gb b) s).val := by
  pointwise [val_main_call0_v5, val_main_call0_v4, val_main_call0_v3, val_main_call0_v2, val_main_call0_v1, val_main_call0_v0, val_main_call0_c, val_main_call0_c_0]
  rw [indices_apply]
  generalize top (rLogits x sc gw gb b) s = e
  revert e; decide

theorem mask_apply (s : Fin 2) : val_main_call0_v12 (F := Ideal) x sc gw gb (ix2 b s) = 1#1 := by
  unfold val_main_call0_v12
  refine Host.reduce_andi_one _ _ _ _ _ rfl fun i => ?_
  idx_vars i
  pointwise [val_main_call0_v11, val_main_call0_v10, val_main_call0_v9, val_main_call0_v8, val_main_call0_v7, val_main_call0_v6, val_main_call0_c_1, val_main_call0_c_2]
  rw [Subsingleton.elim i2 0, place_apply]
  generalize top (rLogits x sc gw gb i0) i1 = e
  revert e; decide

/-- The four gathers read the same places and the same masks. -/
theorem places_one : val_main_call1_v5 (F := Ideal) x sc gw gb = val_main_call0_v5 x sc gw gb := rfl
theorem places_three : val_main_call3_v5 (F := Ideal) x sc gw gb = val_main_call0_v5 x sc gw gb := rfl
theorem places_four : val_main_call4_v5 (F := Ideal) x sc gw gb = val_main_call0_v5 x sc gw gb := rfl
theorem masks_one : val_main_call1_v12 (F := Ideal) x sc gw gb = val_main_call0_v12 x sc gw gb := rfl
theorem masks_three : val_main_call3_v12 (F := Ideal) x sc gw gb = val_main_call0_v12 x sc gw gb := rfl
theorem masks_four : val_main_call4_v12 (F := Ideal) x sc gw gb = val_main_call0_v12 x sc gw gb := rfl

variable (s : Fin 2)

theorem up_apply (j : Fin 1536) (k : Fin 768) :
    val_main_v29 (F := Ideal) x sc gw gb w1 (ix4 b s j k) = w1 (ix3 (top (rLogits x sc gw gb b) s) j k) := by
  have hg : val_main_call0_v13 (F := Ideal) x sc gw gb w1 (ix4 b s j k) = w1 (ix3 (top (rLogits x sc gw gb b) s) j k) :=
    gather_stack _ b s _ _ w1 (place_apply x sc gw gb b s) j k
  pointwise [val_main_v29, val_main_call0_v14, val_main_call0_v15, val_main_call0_cst]
  rw [mask_apply, hg]
  exact if_pos rfl

theorem upBias_apply (j : Fin 1536) :
    val_main_v30 (F := Ideal) x sc gw gb b1 (ix3 b s j) = b1 (ix2 (top (rLogits x sc gw gb b) s) j) := by
  have hg : val_main_call1_v13 (F := Ideal) x sc gw gb b1 (ix3 b s j) = b1 (ix2 (top (rLogits x sc gw gb b) s) j) :=
    gather_rows _ b s _ _ b1 (place_apply x sc gw gb b s) j
  pointwise [val_main_v30, val_main_call1_v14, val_main_call1_v15, val_main_call1_cst]
  rw [masks_one, mask_apply, hg]
  exact if_pos rfl

theorem down_apply (j k : Fin 768) :
    val_main_v50 (F := Ideal) x sc gw gb w2 (ix4 b s j k) = w2 (ix3 (top (rLogits x sc gw gb b) s) j k) := by
  have hg : val_main_call3_v13 (F := Ideal) x sc gw gb w2 (ix4 b s j k) = w2 (ix3 (top (rLogits x sc gw gb b) s) j k) :=
    gather_stack _ b s _ _ w2 (place_apply x sc gw gb b s) j k
  pointwise [val_main_v50, val_main_call3_v14, val_main_call3_v15, val_main_call3_cst]
  rw [masks_three, mask_apply, hg]
  exact if_pos rfl

theorem downBias_apply (j : Fin 768) :
    val_main_v51 (F := Ideal) x sc gw gb b2 (ix3 b s j) = b2 (ix2 (top (rLogits x sc gw gb b) s) j) := by
  have hg : val_main_call4_v13 (F := Ideal) x sc gw gb b2 (ix3 b s j) = b2 (ix2 (top (rLogits x sc gw gb b) s) j) :=
    gather_rows _ b s _ _ b2 (place_apply x sc gw gb b s) j
  pointwise [val_main_v51, val_main_call4_v14, val_main_call4_v15, val_main_call4_cst]
  rw [masks_four, mask_apply, hg]
  exact if_pos rfl

/-! ## The expert's output -/

theorem hidden_apply (j : Fin 1536) :
    val_main_v32 (F := Ideal) x sc gw gb w1 b1 (ix3 b s j)
      = logit (rTok x sc b) (fun k => w1 (ix3 (top (rLogits x sc gw gb b) s) j k)) (b1 (ix2 (top (rLogits x sc gw gb b) s) j)) := by
  unfold logit
  simp only [← upBias_apply, ← up_apply, ← tok_apply]
  pointwise [val_main_v32, val_main_v31]
  exact congrArg (· + _) (Finset.sum_congr rfl fun k _ => mul_comm _ _)

theorem unit_apply (j : Fin 768) :
    val_main_v49 (F := Ideal) x sc gw gb w1 b1 (ix3 b s j) = unit (fun r => val_main_v32 (F := Ideal) x sc gw gb w1 b1 (ix3 b s r)) j := by
  unfold unit gate lin
  rw [show odd j = (⟨1 + 2 * j.val, by omega⟩ : Fin 1536) from Fin.ext (Nat.add_comm _ _)]
  pointwise [val_main_v49, val_main_v48, val_main_v47, val_main_v46, val_main_v45, val_main_v44, val_main_v43, val_main_v42, val_main_v41, val_main_v40,
    val_main_v39, val_main_v38, val_main_v37, val_main_v36, val_main_v35, val_main_v34, val_main_v33, val_main_cst_5, val_main_cst_6, val_main_cst_7,
    val_main_cst_8, val_main_cst_9, val_main_cst_10, val_main_cst_11, val_main_call2_v0, val_main_call2_v1, val_main_call2_v2, val_main_call2_v3, val_main_call2_v4]
  rfl

/-- The reference's result at an index. -/
theorem result_apply (hb : ∀ e, rLogits x sc gw gb b e ≠ ⊥) (ht : ∀ e, rLogits x sc gw gb b e ≠ ⊤) (j : Fin 768) :
    val_main_v55 (F := Ideal) x sc gw gb w1 b1 w2 b2 (ix2 b j)
      = x (ix2 b j) + ∑ s : Fin 2, expert (rTok x sc b) (fun r k => w1 (ix3 (top (rLogits x sc gw gb b) s) r k))
          (fun r => b1 (ix2 (top (rLogits x sc gw gb b) s) r)) (fun k => w2 (ix3 (top (rLogits x sc gw gb b) s) j k))
          (b2 (ix2 (top (rLogits x sc gw gb b) s) j)) * weight (rLogits x sc gw gb b) s := by
  unfold expert
  simp only [← weight_apply x sc gw gb b hb ht, ← hidden_apply, ← downBias_apply, ← down_apply, ← unit_apply]
  pointwise [val_main_v55, val_main_v54, val_main_v53, val_main_v52]
  exact congrArg (_ + ·) (Finset.sum_congr rfl fun s _ => congrArg (· * _) (congrArg (· + _) (Finset.sum_congr rfl fun k _ => mul_comm _ _)))

end Cert.ReferenceIdeal.Hand

end
-- ==== Proof.Hand.Finite.lean ====
/- Under the precondition every logit is a real number: the scale and the gate's numbers are finite, and a row over its root mean square is finite whatever the row is. -/
module

public import proofs.«01_k».proof.Proof.Hand.KernelTotal
public import proofs.«01_k».proof.Proof.Gen.Pre_finite
public import proofs.«01_k».proof.Defs
public import Idealize.ShloMosaic.Lib.ReduceAll

@[expose] public section

noncomputable section

namespace Cert.Finite

open Idealize.ShloMosaic Cert.Model

/-- A number that is neither infinity. -/
def IsReal (a : EReal) : Prop := ∃ r : ℝ, a = (r : EReal)

theorem IsReal.mul {a b : EReal} : IsReal a → IsReal b → IsReal (a * b) := by
  rintro ⟨p, rfl⟩ ⟨q, rfl⟩; exact ⟨p * q, (EReal.coe_mul p q).symm⟩

theorem IsReal.add {a b : EReal} : IsReal a → IsReal b → IsReal (a + b) := by
  rintro ⟨p, rfl⟩ ⟨q, rfl⟩; exact ⟨p + q, (EReal.coe_add p q).symm⟩

theorem IsReal.sum {ι : Type} (s : Finset ι) (f : ι → EReal) (h : ∀ i, IsReal (f i)) : IsReal (∑ i ∈ s, f i) :=
  Finset.sum_induction f IsReal (fun _ _ => IsReal.add) ⟨0, rfl⟩ (fun i _ => h i)

theorem IsReal.ne_bot {a : EReal} : IsReal a → a ≠ ⊥ := by rintro ⟨p, rfl⟩; exact EReal.coe_ne_bot p
theorem IsReal.ne_top {a : EReal} : IsReal a → a ≠ ⊤ := by rintro ⟨p, rfl⟩; exact EReal.coe_ne_top p

/-- A magnitude below infinity is a real number's. -/
theorem real_of_abs {a : EReal} (h : max a (-a) < ⊤) : IsReal a := by
  induction a with
  | bot => simp at h
  | top => simp at h
  | coe r => exact ⟨r, rfl⟩

theorem square_nonneg (a : EReal) : 0 ≤ a * a := by
  induction a with
  | bot => simp
  | top => simp
  | coe r => rw [← EReal.coe_mul]; exact_mod_cast mul_self_nonneg r

theorem real_of_square {a : EReal} (h : a * a ≠ ⊤) : IsReal a := by
  induction a with
  | bot => simp at h
  | top => simp at h
  | coe r => exact ⟨r, rfl⟩

theorem rsqrt_top : Ideal.rsqrt ⊤ = 0 := rfl

theorem rsqrt_coe {r : ℝ} (h : 0 < r) : Ideal.rsqrt (r : EReal) = ((Real.sqrt r)⁻¹ : ℝ) := by
  refine (show Ideal.rsqrt (r : EReal) = if r < 0 then (⊥ : EReal) else if r = 0 then (⊤ : EReal) else (((Real.sqrt r)⁻¹ : ℝ) : EReal) from rfl).trans ?_
  rw [if_neg h.le.not_gt, if_neg h.ne']

/-- The scaling of a row is a real number that is zero when the mean square is infinite. -/
theorem tok_real (x s : Fin 768 → EReal) (hs : ∀ k, IsReal (s k)) (k : Fin 768) : IsReal (tok x s k) := by
  have hn : Ideal.ofBits .f32 0x44400000#32 = ((768 : ℝ) : EReal) := by
    simp [Ideal.ofBits, Ideal.ieee]
    rw [← EReal.coe_mul]
    norm_num
  obtain ⟨ε, hε, he⟩ : ∃ ε : ℝ, 0 < ε ∧ Ideal.ofBits .f32 0x3727C5AC#32 = (ε : EReal) := by
    refine ⟨_, ?_, by simp [Ideal.ofBits, Ideal.ieee]; rfl⟩
    norm_num
  have h0 : (0 : EReal) ≤ ∑ q, x q * x q := Finset.sum_nonneg fun q _ => square_nonneg (x q)
  unfold tok
  rw [hn, he]
  by_cases ht : ∑ q, x q * x q = ⊤
  · have : Ideal.div ⊤ ((768 : ℝ) : EReal) = ⊤ := by
      rw [Ideal.div, if_neg (by norm_num), ← EReal.coe_inv]
      exact EReal.top_mul_coe_of_pos (by norm_num)
    rw [ht, this, EReal.top_add_coe, rsqrt_top, mul_zero, zero_mul]
    exact ⟨0, rfl⟩
  · have hx : IsReal (x k) := real_of_square fun h =>
      ht (top_le_iff.1 (h ▸ Finset.single_le_sum (f := fun q => x q * x q) (fun q _ => square_nonneg (x q)) (Finset.mem_univ k)))
    generalize ∑ q, x q * x q = S at h0 ht
    induction S with
    | bot => simp at h0
    | top => exact absurd rfl ht
    | coe r =>
      have hr : 0 ≤ r := by exact_mod_cast h0
      have hp : 0 < r * (768 : ℝ)⁻¹ + ε := by positivity
      rw [Ideal.div, if_neg (by norm_num), ← EReal.coe_inv, ← EReal.coe_mul, ← EReal.coe_add, rsqrt_coe hp]
      exact (hx.mul ⟨_, rfl⟩).mul (hs k)

theorem logit_real {t w : Fin 768 → EReal} {b : EReal} (ht : ∀ k, IsReal (t k)) (hw : ∀ k, IsReal (w k)) (hb : IsReal b) : IsReal (logit t w b) :=
  (IsReal.sum _ _ fun k => (ht k).mul (hw k)).add hb

/-- An array's magnitudes all compare below infinity. -/
theorem all_real {S : Shape} {b : _} {axes : List (Fin S.rank)} (x : FVec Ideal S .f32) (h : S.ReducesTo axes Cert.Pre_finite.S_) (j : Cert.Pre_finite.S_.Idx)
    (e : Host.reduce IntOp.andi (cmpf .olt (Host.absf x) (broadcastInDim S ![] b (constant (F := Ideal) Cert.Pre_finite.S_ .f32 0x7F800000#32)))
      (constantI Cert.Pre_finite.S_ 1 1#1) h Cert.Pre_finite.Gen.h_S_ j = 1#1) (i : S.Idx) : IsReal (x i) := by
  have h1 : Ideal.cmp .olt (max (x i : EReal) (-(x i : EReal))) (Ideal.ofBits .f32 0x7F800000#32) = 1#1 := Host.reduce_andi_all _ _ _ _ j e i
  have h2 := (Ideal.cmp_olt_eq_one _ _).1 h1
  have h3 : Ideal.ofBits .f32 0x7F800000#32 = ⊤ := by simp [Ideal.ofBits, Ideal.ieee]
  exact real_of_abs (h3 ▸ h2)

open Cert.Pre_finite in
/-- The precondition on plain arrays. -/
theorem fn_real (x : FVec Ideal S32x768 .f32) (s : FVec Ideal S768 .f32) (gw : FVec Ideal S16x768 .f32) (gb : FVec Ideal S16 .f32)
    (w1 : FVec Ideal S16x1536x768 .f32) (b1 : FVec Ideal S16x1536 .f32) (w2 : FVec Ideal S16x768x768 .f32) (b2 : FVec Ideal S16x768 .f32)
    (h : Cert.Pre_finite.fn (F := Ideal) x s gw gb w1 b1 w2 b2 = fun _ => 1#1) :
    (∀ i, IsReal (s i)) ∧ (∀ i, IsReal (gw i)) ∧ (∀ i, IsReal (gb i)) := by
  have h1 := congrFun h (Shape.Idx.first Cert.Pre_finite.Gen.h_S_)
  obtain ⟨h2, hb⟩ := IntOp.andi_eq_one.1 h1
  obtain ⟨hs, hw⟩ := IntOp.andi_eq_one.1 h2
  exact ⟨all_real s _ _ hs, all_real gw _ _ hw, all_real gb _ _ hb⟩

open Cert.KernelIdeal.Hand in
/-- Every logit is real under the precondition. -/
theorem logits_real (m) (h : Cert.Pre_KernelIdeal_finite m) (c) (b : Fin 32) (e : Fin 16) : IsReal (logits m c b e) := by
  obtain ⟨hs, hw, hb⟩ := fn_real _ _ _ _ _ _ _ _ (h c)
  exact logit_real (fun k => tok_real _ _ (fun k => hs _) k) (fun k => hw _) (hb _)

end Cert.Finite

end
-- ==== Proof.lean ====
/- The certificate's proof: the three programs' runs, the named constant, and the equation of the two results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Hand.KernelTotal
public import proofs.«01_k».proof.Proof.Hand.RefValue
public import proofs.«01_k».proof.Proof.Hand.Finite
public import proofs.«01_k».proof.Proof.Hand.LaunchK
public import proofs.«01_k».proof.Proof.Hand.LaunchI
public import Idealize.ShloMosaic.Adequacy
public import Idealize.ShloMosaic.Init
public import Idealize.ShloMosaic.Lib.Quiescent

@[expose] public section

noncomputable section

namespace Cert.Proof

open Idealize.ShloMosaic Idealize.SL.Sem

theorem kernel_runs : Cert.quiescent_Kernel (hKernel := Cert.Kernel.Gen.facts) := fun m g _ =>
  (θ_run _ _ _).mono (fun _ h => ⟨fun c => (h.1 c).2, h.2⟩) (Cert.Kernel.Hand.run_total m g)

theorem ideal_runs : Cert.quiescent_KernelIdeal (hKernelIdeal := Cert.KernelIdeal.Gen.facts) := fun m g _ =>
  (θ_run _ _ _).mono (fun _ h => ⟨fun c => (h.1 c).2, h.2⟩) (Cert.KernelIdeal.Hand.run_total m g)

theorem reference_runs : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

theorem mask_named : Cert.preserves_Kernel_KernelIdeal := IdealRules.named_const.statement Cert.KernelIdeal.κ "mask" .f32 0xF149F2CA#32 ⊥ rfl

/-- Under the precondition the reference's value on the kernel's arguments is the kernel's result. -/
theorem result_eq (m) (h : Cert.Pre_KernelIdeal_finite (hPre_finite := Cert.Pre_finite.Gen.facts) m) (c : Dev Cert.KernelIdeal.nD) :
    Cert.ReferenceIdeal.Read.val_main_v55 (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) (m (c.tc.loc Cert.KernelIdeal.main_arg6)) (m (c.tc.loc Cert.KernelIdeal.main_arg7))
      = Cert.KernelIdeal.Hand.total m c 15 := by
  funext i
  idx_vars i
  have hl := Cert.Finite.logits_real m h c i0
  refine (Cert.ReferenceIdeal.Hand.result_apply _ _ _ _ _ _ _ _ i0 (fun e => (hl e).ne_bot) (fun e => (hl e).ne_top) i1).trans ?_
  exact (Cert.KernelIdeal.Hand.result_apply m c i0 (fun e => bot_lt_iff_ne_bot.2 (hl e).ne_bot) i1).symm

theorem results_agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.KernelIdeal.Hand.total m c 15, ?_, ?_⟩
  · exact (θ_run _ _ _).mono (fun _ h => h.1) (Cert.KernelIdeal.Hand.run_total m g)
  · refine (θ_run _ _ _).mono (fun r h c => ⟨(h c).1.trans ?_, (h c).2⟩) (Cert.ReferenceIdeal.Value.run (F := Ideal) m' g')
    obtain ⟨h0, h1, h2, h3, h4, h5, h6, h7⟩ := hargs c
    rw [Cert.ReferenceIdeal.Read.val_main_v55_eq, h0, h1, h2, h3, h4, h5, h6, h7]
    exact result_eq m hpre c

theorem claim : Cert.Claim :=
  ⟨Cert.Kernel.Gen.facts, Cert.KernelIdeal.Gen.facts, Cert.ReferenceIdeal.Gen.facts, Cert.Pre_finite.Gen.facts,
    kernel_runs, ideal_runs, fun m g _ => ideal_runs m g trivial, reference_runs, fun m g _ => reference_runs m g trivial, mask_named, results_agree⟩

end Cert.Proof

end
